-- ==== Defs.lean ====
def Pre_ReferenceIdeal (m : (ℓ : Loc Cert.ReferenceIdeal.nD Cert.ReferenceIdeal.τ Cert.ReferenceIdeal.sig) → Buf (Elt Ideal) ℓ) : Prop :=
  True

def Pre_ReferenceIdeal_rolled_1_ReferenceIdeal [hPre_rolled_1_ReferenceIdeal : Cert.Pre_rolled_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_2_ReferenceIdeal [hPre_rolled_2_ReferenceIdeal : Cert.Pre_rolled_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_3_ReferenceIdeal [hPre_rolled_3_ReferenceIdeal : Cert.Pre_rolled_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_4_ReferenceIdeal [hPre_rolled_4_ReferenceIdeal : Cert.Pre_rolled_4_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_5_ReferenceIdeal [hPre_rolled_5_ReferenceIdeal : Cert.Pre_rolled_5_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_5_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_6_ReferenceIdeal [hPre_rolled_6_ReferenceIdeal : Cert.Pre_rolled_6_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_6_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_7_ReferenceIdeal [hPre_rolled_7_ReferenceIdeal : Cert.Pre_rolled_7_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_7_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_8_ReferenceIdeal [hPre_rolled_8_ReferenceIdeal : Cert.Pre_rolled_8_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_8_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_9_ReferenceIdeal [hPre_rolled_9_ReferenceIdeal : Cert.Pre_rolled_9_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_9_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_10_ReferenceIdeal [hPre_rolled_10_ReferenceIdeal : Cert.Pre_rolled_10_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_10_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_11_ReferenceIdeal [hPre_rolled_11_ReferenceIdeal : Cert.Pre_rolled_11_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_11_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_12_ReferenceIdeal [hPre_rolled_12_ReferenceIdeal : Cert.Pre_rolled_12_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_12_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_13_ReferenceIdeal [hPre_rolled_13_ReferenceIdeal : Cert.Pre_rolled_13_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_13_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_14_ReferenceIdeal [hPre_rolled_14_ReferenceIdeal : Cert.Pre_rolled_14_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_14_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_15_ReferenceIdeal [hPre_rolled_15_ReferenceIdeal : Cert.Pre_rolled_15_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_15_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_16_ReferenceIdeal [hPre_rolled_16_ReferenceIdeal : Cert.Pre_rolled_16_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_16_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_17_ReferenceIdeal [hPre_rolled_17_ReferenceIdeal : Cert.Pre_rolled_17_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_17_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_18_ReferenceIdeal [hPre_rolled_18_ReferenceIdeal : Cert.Pre_rolled_18_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_18_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_19_ReferenceIdeal [hPre_rolled_19_ReferenceIdeal : Cert.Pre_rolled_19_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_19_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_20_ReferenceIdeal [hPre_rolled_20_ReferenceIdeal : Cert.Pre_rolled_20_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_20_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_21_ReferenceIdeal [hPre_rolled_21_ReferenceIdeal : Cert.Pre_rolled_21_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_21_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_22_ReferenceIdeal [hPre_rolled_22_ReferenceIdeal : Cert.Pre_rolled_22_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_22_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_23_ReferenceIdeal [hPre_rolled_23_ReferenceIdeal : Cert.Pre_rolled_23_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_23_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_24_ReferenceIdeal [hPre_rolled_24_ReferenceIdeal : Cert.Pre_rolled_24_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_24_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_25_ReferenceIdeal [hPre_rolled_25_ReferenceIdeal : Cert.Pre_rolled_25_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_25_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_26_ReferenceIdeal [hPre_rolled_26_ReferenceIdeal : Cert.Pre_rolled_26_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_26_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_27_ReferenceIdeal [hPre_rolled_27_ReferenceIdeal : Cert.Pre_rolled_27_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_27_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_28_ReferenceIdeal [hPre_rolled_28_ReferenceIdeal : Cert.Pre_rolled_28_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_28_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_29_ReferenceIdeal [hPre_rolled_29_ReferenceIdeal : Cert.Pre_rolled_29_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_29_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_30_ReferenceIdeal [hPre_rolled_30_ReferenceIdeal : Cert.Pre_rolled_30_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_30_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_31_ReferenceIdeal [hPre_rolled_31_ReferenceIdeal : Cert.Pre_rolled_31_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_31_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel [hPre_rolled_24_Kernel : Cert.Pre_rolled_24_Kernel.Facts] (m : (ℓ : Loc Cert.Kernel.nD Cert.Kernel.τ Cert.Kernel.sig) → Buf (Elt Bits) ℓ) : Prop :=
  ∀ c : Dev Cert.Kernel.nD,
    (Cert.Pre_rolled_24_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_1_Kernel [hPre_rolled_1_Kernel : Cert.Pre_rolled_1_Kernel.Facts] (m : (ℓ : Loc Cert.Kernel.nD Cert.Kernel.τ Cert.Kernel.sig) → Buf (Elt Bits) ℓ) : Prop :=
  ∀ c : Dev Cert.Kernel.nD,
    (Cert.Pre_rolled_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_2_Kernel [hPre_rolled_2_Kernel : Cert.Pre_rolled_2_Kernel.Facts] (m : (ℓ : Loc Cert.Kernel.nD Cert.Kernel.τ Cert.Kernel.sig) → Buf (Elt Bits) ℓ) : Prop :=
  ∀ c : Dev Cert.Kernel.nD,
    (Cert.Pre_rolled_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_3_Kernel [hPre_rolled_3_Kernel : Cert.Pre_rolled_3_Kernel.Facts] (m : (ℓ : Loc Cert.Kernel.nD Cert.Kernel.τ Cert.Kernel.sig) → Buf (Elt Bits) ℓ) : Prop :=
  ∀ c : Dev Cert.Kernel.nD,
    (Cert.Pre_rolled_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_4_Kernel [hPre_rolled_4_Kernel : Cert.Pre_rolled_4_Kernel.Facts] (m : (ℓ : Loc Cert.Kernel.nD Cert.Kernel.τ Cert.Kernel.sig) → Buf (Elt Bits) ℓ) : Prop :=
  ∀ c : Dev Cert.Kernel.nD,
    (Cert.Pre_rolled_4_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_5_Kernel [hPre_rolled_5_Kernel : Cert.Pre_rolled_5_Kernel.Facts] (m : (ℓ : Loc Cert.Kernel.nD Cert.Kernel.τ Cert.Kernel.sig) → Buf (Elt Bits) ℓ) : Prop :=
  ∀ c : Dev Cert.Kernel.nD,
    (Cert.Pre_rolled_5_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_6_Kernel [hPre_rolled_6_Kernel : Cert.Pre_rolled_6_Kernel.Facts] (m : (ℓ : Loc Cert.Kernel.nD Cert.Kernel.τ Cert.Kernel.sig) → Buf (Elt Bits) ℓ) : Prop :=
  ∀ c : Dev Cert.Kernel.nD,
    (Cert.Pre_rolled_6_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_7_Kernel [hPre_rolled_7_Kernel : Cert.Pre_rolled_7_Kernel.Facts] (m : (ℓ : Loc Cert.Kernel.nD Cert.Kernel.τ Cert.Kernel.sig) → Buf (Elt Bits) ℓ) : Prop :=
  ∀ c : Dev Cert.Kernel.nD,
    (Cert.Pre_rolled_7_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_8_Kernel [hPre_rolled_8_Kernel : Cert.Pre_rolled_8_Kernel.Facts] (m : (ℓ : Loc Cert.Kernel.nD Cert.Kernel.τ Cert.Kernel.sig) → Buf (Elt Bits) ℓ) : Prop :=
  ∀ c : Dev Cert.Kernel.nD,
    (Cert.Pre_rolled_8_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_9_Kernel [hPre_rolled_9_Kernel : Cert.Pre_rolled_9_Kernel.Facts] (m : (ℓ : Loc Cert.Kernel.nD Cert.Kernel.τ Cert.Kernel.sig) → Buf (Elt Bits) ℓ) : Prop :=
  ∀ c : Dev Cert.Kernel.nD,
    (Cert.Pre_rolled_9_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_10_Kernel [hPre_rolled_10_Kernel : Cert.Pre_rolled_10_Kernel.Facts] (m : (ℓ : Loc Cert.Kernel.nD Cert.Kernel.τ Cert.Kernel.sig) → Buf (Elt Bits) ℓ) : Prop :=
  ∀ c : Dev Cert.Kernel.nD,
    (Cert.Pre_rolled_10_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_11_Kernel [hPre_rolled_11_Kernel : Cert.Pre_rolled_11_Kernel.Facts] (m : (ℓ : Loc Cert.Kernel.nD Cert.Kernel.τ Cert.Kernel.sig) → Buf (Elt Bits) ℓ) : Prop :=
  ∀ c : Dev Cert.Kernel.nD,
    (Cert.Pre_rolled_11_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_12_Kernel [hPre_rolled_12_Kernel : Cert.Pre_rolled_12_Kernel.Facts] (m : (ℓ : Loc Cert.Kernel.nD Cert.Kernel.τ Cert.Kernel.sig) → Buf (Elt Bits) ℓ) : Prop :=
  ∀ c : Dev Cert.Kernel.nD,
    (Cert.Pre_rolled_12_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_13_Kernel [hPre_rolled_13_Kernel : Cert.Pre_rolled_13_Kernel.Facts] (m : (ℓ : Loc Cert.Kernel.nD Cert.Kernel.τ Cert.Kernel.sig) → Buf (Elt Bits) ℓ) : Prop :=
  ∀ c : Dev Cert.Kernel.nD,
    (Cert.Pre_rolled_13_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_14_Kernel [hPre_rolled_14_Kernel : Cert.Pre_rolled_14_Kernel.Facts] (m : (ℓ : Loc Cert.Kernel.nD Cert.Kernel.τ Cert.Kernel.sig) → Buf (Elt Bits) ℓ) : Prop :=
  ∀ c : Dev Cert.Kernel.nD,
    (Cert.Pre_rolled_14_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_15_Kernel [hPre_rolled_15_Kernel : Cert.Pre_rolled_15_Kernel.Facts] (m : (ℓ : Loc Cert.Kernel.nD Cert.Kernel.τ Cert.Kernel.sig) → Buf (Elt Bits) ℓ) : Prop :=
  ∀ c : Dev Cert.Kernel.nD,
    (Cert.Pre_rolled_15_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_16_Kernel [hPre_rolled_16_Kernel : Cert.Pre_rolled_16_Kernel.Facts] (m : (ℓ : Loc Cert.Kernel.nD Cert.Kernel.τ Cert.Kernel.sig) → Buf (Elt Bits) ℓ) : Prop :=
  ∀ c : Dev Cert.Kernel.nD,
    (Cert.Pre_rolled_16_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_17_Kernel [hPre_rolled_17_Kernel : Cert.Pre_rolled_17_Kernel.Facts] (m : (ℓ : Loc Cert.Kernel.nD Cert.Kernel.τ Cert.Kernel.sig) → Buf (Elt Bits) ℓ) : Prop :=
  ∀ c : Dev Cert.Kernel.nD,
    (Cert.Pre_rolled_17_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_18_Kernel [hPre_rolled_18_Kernel : Cert.Pre_rolled_18_Kernel.Facts] (m : (ℓ : Loc Cert.Kernel.nD Cert.Kernel.τ Cert.Kernel.sig) → Buf (Elt Bits) ℓ) : Prop :=
  ∀ c : Dev Cert.Kernel.nD,
    (Cert.Pre_rolled_18_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_19_Kernel [hPre_rolled_19_Kernel : Cert.Pre_rolled_19_Kernel.Facts] (m : (ℓ : Loc Cert.Kernel.nD Cert.Kernel.τ Cert.Kernel.sig) → Buf (Elt Bits) ℓ) : Prop :=
  ∀ c : Dev Cert.Kernel.nD,
    (Cert.Pre_rolled_19_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_20_Kernel [hPre_rolled_20_Kernel : Cert.Pre_rolled_20_Kernel.Facts] (m : (ℓ : Loc Cert.Kernel.nD Cert.Kernel.τ Cert.Kernel.sig) → Buf (Elt Bits) ℓ) : Prop :=
  ∀ c : Dev Cert.Kernel.nD,
    (Cert.Pre_rolled_20_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_21_Kernel [hPre_rolled_21_Kernel : Cert.Pre_rolled_21_Kernel.Facts] (m : (ℓ : Loc Cert.Kernel.nD Cert.Kernel.τ Cert.Kernel.sig) → Buf (Elt Bits) ℓ) : Prop :=
  ∀ c : Dev Cert.Kernel.nD,
    (Cert.Pre_rolled_21_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_22_Kernel [hPre_rolled_22_Kernel : Cert.Pre_rolled_22_Kernel.Facts] (m : (ℓ : Loc Cert.Kernel.nD Cert.Kernel.τ Cert.Kernel.sig) → Buf (Elt Bits) ℓ) : Prop :=
  ∀ c : Dev Cert.Kernel.nD,
    (Cert.Pre_rolled_22_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_23_Kernel [hPre_rolled_23_Kernel : Cert.Pre_rolled_23_Kernel.Facts] (m : (ℓ : Loc Cert.Kernel.nD Cert.Kernel.τ Cert.Kernel.sig) → Buf (Elt Bits) ℓ) : Prop :=
  ∀ c : Dev Cert.Kernel.nD,
    (Cert.Pre_rolled_23_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_25_Kernel [hPre_rolled_25_Kernel : Cert.Pre_rolled_25_Kernel.Facts] (m : (ℓ : Loc Cert.Kernel.nD Cert.Kernel.τ Cert.Kernel.sig) → Buf (Elt Bits) ℓ) : Prop :=
  ∀ c : Dev Cert.Kernel.nD,
    (Cert.Pre_rolled_25_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_26_Kernel [hPre_rolled_26_Kernel : Cert.Pre_rolled_26_Kernel.Facts] (m : (ℓ : Loc Cert.Kernel.nD Cert.Kernel.τ Cert.Kernel.sig) → Buf (Elt Bits) ℓ) : Prop :=
  ∀ c : Dev Cert.Kernel.nD,
    (Cert.Pre_rolled_26_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_27_Kernel [hPre_rolled_27_Kernel : Cert.Pre_rolled_27_Kernel.Facts] (m : (ℓ : Loc Cert.Kernel.nD Cert.Kernel.τ Cert.Kernel.sig) → Buf (Elt Bits) ℓ) : Prop :=
  ∀ c : Dev Cert.Kernel.nD,
    (Cert.Pre_rolled_27_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_28_Kernel [hPre_rolled_28_Kernel : Cert.Pre_rolled_28_Kernel.Facts] (m : (ℓ : Loc Cert.Kernel.nD Cert.Kernel.τ Cert.Kernel.sig) → Buf (Elt Bits) ℓ) : Prop :=
  ∀ c : Dev Cert.Kernel.nD,
    (Cert.Pre_rolled_28_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_29_Kernel [hPre_rolled_29_Kernel : Cert.Pre_rolled_29_Kernel.Facts] (m : (ℓ : Loc Cert.Kernel.nD Cert.Kernel.τ Cert.Kernel.sig) → Buf (Elt Bits) ℓ) : Prop :=
  ∀ c : Dev Cert.Kernel.nD,
    (Cert.Pre_rolled_29_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_30_Kernel [hPre_rolled_30_Kernel : Cert.Pre_rolled_30_Kernel.Facts] (m : (ℓ : Loc Cert.Kernel.nD Cert.Kernel.τ Cert.Kernel.sig) → Buf (Elt Bits) ℓ) : Prop :=
  ∀ c : Dev Cert.Kernel.nD,
    (Cert.Pre_rolled_30_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_31_Kernel [hPre_rolled_31_Kernel : Cert.Pre_rolled_31_Kernel.Facts] (m : (ℓ : Loc Cert.Kernel.nD Cert.Kernel.τ Cert.Kernel.sig) → Buf (Elt Bits) ℓ) : Prop :=
  ∀ c : Dev Cert.Kernel.nD,
    (Cert.Pre_rolled_31_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rolled_24_Kernel : Cert.Pre_rolled_24_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_24_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_1_Kernel [hPre_rolled_1_Kernel : Cert.Pre_rolled_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_2_Kernel [hPre_rolled_2_Kernel : Cert.Pre_rolled_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_3_Kernel [hPre_rolled_3_Kernel : Cert.Pre_rolled_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_4_Kernel [hPre_rolled_4_Kernel : Cert.Pre_rolled_4_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_4_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_5_Kernel [hPre_rolled_5_Kernel : Cert.Pre_rolled_5_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_5_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_6_Kernel [hPre_rolled_6_Kernel : Cert.Pre_rolled_6_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_6_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_7_Kernel [hPre_rolled_7_Kernel : Cert.Pre_rolled_7_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_7_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_8_Kernel [hPre_rolled_8_Kernel : Cert.Pre_rolled_8_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_8_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_9_Kernel [hPre_rolled_9_Kernel : Cert.Pre_rolled_9_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_9_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_10_Kernel [hPre_rolled_10_Kernel : Cert.Pre_rolled_10_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_10_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_11_Kernel [hPre_rolled_11_Kernel : Cert.Pre_rolled_11_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_11_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_12_Kernel [hPre_rolled_12_Kernel : Cert.Pre_rolled_12_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_12_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_13_Kernel [hPre_rolled_13_Kernel : Cert.Pre_rolled_13_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_13_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_14_Kernel [hPre_rolled_14_Kernel : Cert.Pre_rolled_14_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_14_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_15_Kernel [hPre_rolled_15_Kernel : Cert.Pre_rolled_15_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_15_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_16_Kernel [hPre_rolled_16_Kernel : Cert.Pre_rolled_16_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_16_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_17_Kernel [hPre_rolled_17_Kernel : Cert.Pre_rolled_17_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_17_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_18_Kernel [hPre_rolled_18_Kernel : Cert.Pre_rolled_18_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_18_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_19_Kernel [hPre_rolled_19_Kernel : Cert.Pre_rolled_19_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_19_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_20_Kernel [hPre_rolled_20_Kernel : Cert.Pre_rolled_20_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_20_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_21_Kernel [hPre_rolled_21_Kernel : Cert.Pre_rolled_21_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_21_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_22_Kernel [hPre_rolled_22_Kernel : Cert.Pre_rolled_22_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_22_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_23_Kernel [hPre_rolled_23_Kernel : Cert.Pre_rolled_23_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_23_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_25_Kernel [hPre_rolled_25_Kernel : Cert.Pre_rolled_25_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_25_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_26_Kernel [hPre_rolled_26_Kernel : Cert.Pre_rolled_26_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_26_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_27_Kernel [hPre_rolled_27_Kernel : Cert.Pre_rolled_27_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_27_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_28_Kernel [hPre_rolled_28_Kernel : Cert.Pre_rolled_28_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_28_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_29_Kernel [hPre_rolled_29_Kernel : Cert.Pre_rolled_29_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_29_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_30_Kernel [hPre_rolled_30_Kernel : Cert.Pre_rolled_30_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_30_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_31_Kernel [hPre_rolled_31_Kernel : Cert.Pre_rolled_31_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_31_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_1_ReferenceIdeal [hReferenceIdeal : Cert.ReferenceIdeal.Facts] [hPre_rolled_1_ReferenceIdeal : Cert.Pre_rolled_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_2_ReferenceIdeal [hReferenceIdeal : Cert.ReferenceIdeal.Facts] [hPre_rolled_2_ReferenceIdeal : Cert.Pre_rolled_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_3_ReferenceIdeal [hReferenceIdeal : Cert.ReferenceIdeal.Facts] [hPre_rolled_3_ReferenceIdeal : Cert.Pre_rolled_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_4_ReferenceIdeal [hReferenceIdeal : Cert.ReferenceIdeal.Facts] [hPre_rolled_4_ReferenceIdeal : Cert.Pre_rolled_4_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_4_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_5_ReferenceIdeal [hReferenceIdeal : Cert.ReferenceIdeal.Facts] [hPre_rolled_5_ReferenceIdeal : Cert.Pre_rolled_5_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_5_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_6_ReferenceIdeal [hReferenceIdeal : Cert.ReferenceIdeal.Facts] [hPre_rolled_6_ReferenceIdeal : Cert.Pre_rolled_6_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_6_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_7_ReferenceIdeal [hReferenceIdeal : Cert.ReferenceIdeal.Facts] [hPre_rolled_7_ReferenceIdeal : Cert.Pre_rolled_7_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_7_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_8_ReferenceIdeal [hReferenceIdeal : Cert.ReferenceIdeal.Facts] [hPre_rolled_8_ReferenceIdeal : Cert.Pre_rolled_8_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_8_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_9_ReferenceIdeal [hReferenceIdeal : Cert.ReferenceIdeal.Facts] [hPre_rolled_9_ReferenceIdeal : Cert.Pre_rolled_9_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_9_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_10_ReferenceIdeal [hReferenceIdeal : Cert.ReferenceIdeal.Facts] [hPre_rolled_10_ReferenceIdeal : Cert.Pre_rolled_10_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_10_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_11_ReferenceIdeal [hReferenceIdeal : Cert.ReferenceIdeal.Facts] [hPre_rolled_11_ReferenceIdeal : Cert.Pre_rolled_11_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_11_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_12_ReferenceIdeal [hReferenceIdeal : Cert.ReferenceIdeal.Facts] [hPre_rolled_12_ReferenceIdeal : Cert.Pre_rolled_12_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_12_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_13_ReferenceIdeal [hReferenceIdeal : Cert.ReferenceIdeal.Facts] [hPre_rolled_13_ReferenceIdeal : Cert.Pre_rolled_13_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_13_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_14_ReferenceIdeal [hReferenceIdeal : Cert.ReferenceIdeal.Facts] [hPre_rolled_14_ReferenceIdeal : Cert.Pre_rolled_14_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_14_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_15_ReferenceIdeal [hReferenceIdeal : Cert.ReferenceIdeal.Facts] [hPre_rolled_15_ReferenceIdeal : Cert.Pre_rolled_15_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_15_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_16_ReferenceIdeal [hReferenceIdeal : Cert.ReferenceIdeal.Facts] [hPre_rolled_16_ReferenceIdeal : Cert.Pre_rolled_16_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_16_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_17_ReferenceIdeal [hReferenceIdeal : Cert.ReferenceIdeal.Facts] [hPre_rolled_17_ReferenceIdeal : Cert.Pre_rolled_17_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_17_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_18_ReferenceIdeal [hReferenceIdeal : Cert.ReferenceIdeal.Facts] [hPre_rolled_18_ReferenceIdeal : Cert.Pre_rolled_18_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_18_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_19_ReferenceIdeal [hReferenceIdeal : Cert.ReferenceIdeal.Facts] [hPre_rolled_19_ReferenceIdeal : Cert.Pre_rolled_19_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_19_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_20_ReferenceIdeal [hReferenceIdeal : Cert.ReferenceIdeal.Facts] [hPre_rolled_20_ReferenceIdeal : Cert.Pre_rolled_20_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_20_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_21_ReferenceIdeal [hReferenceIdeal : Cert.ReferenceIdeal.Facts] [hPre_rolled_21_ReferenceIdeal : Cert.Pre_rolled_21_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_21_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_22_ReferenceIdeal [hReferenceIdeal : Cert.ReferenceIdeal.Facts] [hPre_rolled_22_ReferenceIdeal : Cert.Pre_rolled_22_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_22_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_23_ReferenceIdeal [hReferenceIdeal : Cert.ReferenceIdeal.Facts] [hPre_rolled_23_ReferenceIdeal : Cert.Pre_rolled_23_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_23_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_24_ReferenceIdeal [hReferenceIdeal : Cert.ReferenceIdeal.Facts] [hPre_rolled_24_ReferenceIdeal : Cert.Pre_rolled_24_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_24_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_25_ReferenceIdeal [hReferenceIdeal : Cert.ReferenceIdeal.Facts] [hPre_rolled_25_ReferenceIdeal : Cert.Pre_rolled_25_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_25_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_26_ReferenceIdeal [hReferenceIdeal : Cert.ReferenceIdeal.Facts] [hPre_rolled_26_ReferenceIdeal : Cert.Pre_rolled_26_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_26_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_27_ReferenceIdeal [hReferenceIdeal : Cert.ReferenceIdeal.Facts] [hPre_rolled_27_ReferenceIdeal : Cert.Pre_rolled_27_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_27_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_28_ReferenceIdeal [hReferenceIdeal : Cert.ReferenceIdeal.Facts] [hPre_rolled_28_ReferenceIdeal : Cert.Pre_rolled_28_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_28_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_29_ReferenceIdeal [hReferenceIdeal : Cert.ReferenceIdeal.Facts] [hPre_rolled_29_ReferenceIdeal : Cert.Pre_rolled_29_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_29_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_30_ReferenceIdeal [hReferenceIdeal : Cert.ReferenceIdeal.Facts] [hPre_rolled_30_ReferenceIdeal : Cert.Pre_rolled_30_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_30_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_31_ReferenceIdeal [hReferenceIdeal : Cert.ReferenceIdeal.Facts] [hPre_rolled_31_ReferenceIdeal : Cert.Pre_rolled_31_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_31_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel [hKernel : Cert.Kernel.Facts] [hPre_rolled_24_Kernel : Cert.Pre_rolled_24_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_1_Kernel [hKernel : Cert.Kernel.Facts] [hPre_rolled_1_Kernel : Cert.Pre_rolled_1_Kernel.Facts] : Prop :=
  ∀ (m : (ℓ : Loc Cert.Kernel.nD Cert.Kernel.τ Cert.Kernel.sig) → Buf (Elt Bits) ℓ) (g : Dev Cert.Kernel.nD → PrngReg), Pre_Kernel_rolled_1_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_2_Kernel [hKernel : Cert.Kernel.Facts] [hPre_rolled_2_Kernel : Cert.Pre_rolled_2_Kernel.Facts] : Prop :=
  ∀ (m : (ℓ : Loc Cert.Kernel.nD Cert.Kernel.τ Cert.Kernel.sig) → Buf (Elt Bits) ℓ) (g : Dev Cert.Kernel.nD → PrngReg), Pre_Kernel_rolled_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_3_Kernel [hKernel : Cert.Kernel.Facts] [hPre_rolled_3_Kernel : Cert.Pre_rolled_3_Kernel.Facts] : Prop :=
  ∀ (m : (ℓ : Loc Cert.Kernel.nD Cert.Kernel.τ Cert.Kernel.sig) → Buf (Elt Bits) ℓ) (g : Dev Cert.Kernel.nD → PrngReg), Pre_Kernel_rolled_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_4_Kernel [hKernel : Cert.Kernel.Facts] [hPre_rolled_4_Kernel : Cert.Pre_rolled_4_Kernel.Facts] : Prop :=
  ∀ (m : (ℓ : Loc Cert.Kernel.nD Cert.Kernel.τ Cert.Kernel.sig) → Buf (Elt Bits) ℓ) (g : Dev Cert.Kernel.nD → PrngReg), Pre_Kernel_rolled_4_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_5_Kernel [hKernel : Cert.Kernel.Facts] [hPre_rolled_5_Kernel : Cert.Pre_rolled_5_Kernel.Facts] : Prop :=
  ∀ (m : (ℓ : Loc Cert.Kernel.nD Cert.Kernel.τ Cert.Kernel.sig) → Buf (Elt Bits) ℓ) (g : Dev Cert.Kernel.nD → PrngReg), Pre_Kernel_rolled_5_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_6_Kernel [hKernel : Cert.Kernel.Facts] [hPre_rolled_6_Kernel : Cert.Pre_rolled_6_Kernel.Facts] : Prop :=
  ∀ (m : (ℓ : Loc Cert.Kernel.nD Cert.Kernel.τ Cert.Kernel.sig) → Buf (Elt Bits) ℓ) (g : Dev Cert.Kernel.nD → PrngReg), Pre_Kernel_rolled_6_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_7_Kernel [hKernel : Cert.Kernel.Facts] [hPre_rolled_7_Kernel : Cert.Pre_rolled_7_Kernel.Facts] : Prop :=
  ∀ (m : (ℓ : Loc Cert.Kernel.nD Cert.Kernel.τ Cert.Kernel.sig) → Buf (Elt Bits) ℓ) (g : Dev Cert.Kernel.nD → PrngReg), Pre_Kernel_rolled_7_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_8_Kernel [hKernel : Cert.Kernel.Facts] [hPre_rolled_8_Kernel : Cert.Pre_rolled_8_Kernel.Facts] : Prop :=
  ∀ (m : (ℓ : Loc Cert.Kernel.nD Cert.Kernel.τ Cert.Kernel.sig) → Buf (Elt Bits) ℓ) (g : Dev Cert.Kernel.nD → PrngReg), Pre_Kernel_rolled_8_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_9_Kernel [hKernel : Cert.Kernel.Facts] [hPre_rolled_9_Kernel : Cert.Pre_rolled_9_Kernel.Facts] : Prop :=
  ∀ (m : (ℓ : Loc Cert.Kernel.nD Cert.Kernel.τ Cert.Kernel.sig) → Buf (Elt Bits) ℓ) (g : Dev Cert.Kernel.nD → PrngReg), Pre_Kernel_rolled_9_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_10_Kernel [hKernel : Cert.Kernel.Facts] [hPre_rolled_10_Kernel : Cert.Pre_rolled_10_Kernel.Facts] : Prop :=
  ∀ (m : (ℓ : Loc Cert.Kernel.nD Cert.Kernel.τ Cert.Kernel.sig) → Buf (Elt Bits) ℓ) (g : Dev Cert.Kernel.nD → PrngReg), Pre_Kernel_rolled_10_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_11_Kernel [hKernel : Cert.Kernel.Facts] [hPre_rolled_11_Kernel : Cert.Pre_rolled_11_Kernel.Facts] : Prop :=
  ∀ (m : (ℓ : Loc Cert.Kernel.nD Cert.Kernel.τ Cert.Kernel.sig) → Buf (Elt Bits) ℓ) (g : Dev Cert.Kernel.nD → PrngReg), Pre_Kernel_rolled_11_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_12_Kernel [hKernel : Cert.Kernel.Facts] [hPre_rolled_12_Kernel : Cert.Pre_rolled_12_Kernel.Facts] : Prop :=
  ∀ (m : (ℓ : Loc Cert.Kernel.nD Cert.Kernel.τ Cert.Kernel.sig) → Buf (Elt Bits) ℓ) (g : Dev Cert.Kernel.nD → PrngReg), Pre_Kernel_rolled_12_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_13_Kernel [hKernel : Cert.Kernel.Facts] [hPre_rolled_13_Kernel : Cert.Pre_rolled_13_Kernel.Facts] : Prop :=
  ∀ (m : (ℓ : Loc Cert.Kernel.nD Cert.Kernel.τ Cert.Kernel.sig) → Buf (Elt Bits) ℓ) (g : Dev Cert.Kernel.nD → PrngReg), Pre_Kernel_rolled_13_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_14_Kernel [hKernel : Cert.Kernel.Facts] [hPre_rolled_14_Kernel : Cert.Pre_rolled_14_Kernel.Facts] : Prop :=
  ∀ (m : (ℓ : Loc Cert.Kernel.nD Cert.Kernel.τ Cert.Kernel.sig) → Buf (Elt Bits) ℓ) (g : Dev Cert.Kernel.nD → PrngReg), Pre_Kernel_rolled_14_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_15_Kernel [hKernel : Cert.Kernel.Facts] [hPre_rolled_15_Kernel : Cert.Pre_rolled_15_Kernel.Facts] : Prop :=
  ∀ (m : (ℓ : Loc Cert.Kernel.nD Cert.Kernel.τ Cert.Kernel.sig) → Buf (Elt Bits) ℓ) (g : Dev Cert.Kernel.nD → PrngReg), Pre_Kernel_rolled_15_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_16_Kernel [hKernel : Cert.Kernel.Facts] [hPre_rolled_16_Kernel : Cert.Pre_rolled_16_Kernel.Facts] : Prop :=
  ∀ (m : (ℓ : Loc Cert.Kernel.nD Cert.Kernel.τ Cert.Kernel.sig) → Buf (Elt Bits) ℓ) (g : Dev Cert.Kernel.nD → PrngReg), Pre_Kernel_rolled_16_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_17_Kernel [hKernel : Cert.Kernel.Facts] [hPre_rolled_17_Kernel : Cert.Pre_rolled_17_Kernel.Facts] : Prop :=
  ∀ (m : (ℓ : Loc Cert.Kernel.nD Cert.Kernel.τ Cert.Kernel.sig) → Buf (Elt Bits) ℓ) (g : Dev Cert.Kernel.nD → PrngReg), Pre_Kernel_rolled_17_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_18_Kernel [hKernel : Cert.Kernel.Facts] [hPre_rolled_18_Kernel : Cert.Pre_rolled_18_Kernel.Facts] : Prop :=
  ∀ (m : (ℓ : Loc Cert.Kernel.nD Cert.Kernel.τ Cert.Kernel.sig) → Buf (Elt Bits) ℓ) (g : Dev Cert.Kernel.nD → PrngReg), Pre_Kernel_rolled_18_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_19_Kernel [hKernel : Cert.Kernel.Facts] [hPre_rolled_19_Kernel : Cert.Pre_rolled_19_Kernel.Facts] : Prop :=
  ∀ (m : (ℓ : Loc Cert.Kernel.nD Cert.Kernel.τ Cert.Kernel.sig) → Buf (Elt Bits) ℓ) (g : Dev Cert.Kernel.nD → PrngReg), Pre_Kernel_rolled_19_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_20_Kernel [hKernel : Cert.Kernel.Facts] [hPre_rolled_20_Kernel : Cert.Pre_rolled_20_Kernel.Facts] : Prop :=
  ∀ (m : (ℓ : Loc Cert.Kernel.nD Cert.Kernel.τ Cert.Kernel.sig) → Buf (Elt Bits) ℓ) (g : Dev Cert.Kernel.nD → PrngReg), Pre_Kernel_rolled_20_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_21_Kernel [hKernel : Cert.Kernel.Facts] [hPre_rolled_21_Kernel : Cert.Pre_rolled_21_Kernel.Facts] : Prop :=
  ∀ (m : (ℓ : Loc Cert.Kernel.nD Cert.Kernel.τ Cert.Kernel.sig) → Buf (Elt Bits) ℓ) (g : Dev Cert.Kernel.nD → PrngReg), Pre_Kernel_rolled_21_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_22_Kernel [hKernel : Cert.Kernel.Facts] [hPre_rolled_22_Kernel : Cert.Pre_rolled_22_Kernel.Facts] : Prop :=
  ∀ (m : (ℓ : Loc Cert.Kernel.nD Cert.Kernel.τ Cert.Kernel.sig) → Buf (Elt Bits) ℓ) (g : Dev Cert.Kernel.nD → PrngReg), Pre_Kernel_rolled_22_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_23_Kernel [hKernel : Cert.Kernel.Facts] [hPre_rolled_23_Kernel : Cert.Pre_rolled_23_Kernel.Facts] : Prop :=
  ∀ (m : (ℓ : Loc Cert.Kernel.nD Cert.Kernel.τ Cert.Kernel.sig) → Buf (Elt Bits) ℓ) (g : Dev Cert.Kernel.nD → PrngReg), Pre_Kernel_rolled_23_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_25_Kernel [hKernel : Cert.Kernel.Facts] [hPre_rolled_25_Kernel : Cert.Pre_rolled_25_Kernel.Facts] : Prop :=
  ∀ (m : (ℓ : Loc Cert.Kernel.nD Cert.Kernel.τ Cert.Kernel.sig) → Buf (Elt Bits) ℓ) (g : Dev Cert.Kernel.nD → PrngReg), Pre_Kernel_rolled_25_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_26_Kernel [hKernel : Cert.Kernel.Facts] [hPre_rolled_26_Kernel : Cert.Pre_rolled_26_Kernel.Facts] : Prop :=
  ∀ (m : (ℓ : Loc Cert.Kernel.nD Cert.Kernel.τ Cert.Kernel.sig) → Buf (Elt Bits) ℓ) (g : Dev Cert.Kernel.nD → PrngReg), Pre_Kernel_rolled_26_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_27_Kernel [hKernel : Cert.Kernel.Facts] [hPre_rolled_27_Kernel : Cert.Pre_rolled_27_Kernel.Facts] : Prop :=
  ∀ (m : (ℓ : Loc Cert.Kernel.nD Cert.Kernel.τ Cert.Kernel.sig) → Buf (Elt Bits) ℓ) (g : Dev Cert.Kernel.nD → PrngReg), Pre_Kernel_rolled_27_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_28_Kernel [hKernel : Cert.Kernel.Facts] [hPre_rolled_28_Kernel : Cert.Pre_rolled_28_Kernel.Facts] : Prop :=
  ∀ (m : (ℓ : Loc Cert.Kernel.nD Cert.Kernel.τ Cert.Kernel.sig) → Buf (Elt Bits) ℓ) (g : Dev Cert.Kernel.nD → PrngReg), Pre_Kernel_rolled_28_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_29_Kernel [hKernel : Cert.Kernel.Facts] [hPre_rolled_29_Kernel : Cert.Pre_rolled_29_Kernel.Facts] : Prop :=
  ∀ (m : (ℓ : Loc Cert.Kernel.nD Cert.Kernel.τ Cert.Kernel.sig) → Buf (Elt Bits) ℓ) (g : Dev Cert.Kernel.nD → PrngReg), Pre_Kernel_rolled_29_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_30_Kernel [hKernel : Cert.Kernel.Facts] [hPre_rolled_30_Kernel : Cert.Pre_rolled_30_Kernel.Facts] : Prop :=
  ∀ (m : (ℓ : Loc Cert.Kernel.nD Cert.Kernel.τ Cert.Kernel.sig) → Buf (Elt Bits) ℓ) (g : Dev Cert.Kernel.nD → PrngReg), Pre_Kernel_rolled_30_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_31_Kernel [hKernel : Cert.Kernel.Facts] [hPre_rolled_31_Kernel : Cert.Pre_rolled_31_Kernel.Facts] : Prop :=
  ∀ (m : (ℓ : Loc Cert.Kernel.nD Cert.Kernel.τ Cert.Kernel.sig) → Buf (Elt Bits) ℓ) (g : Dev Cert.Kernel.nD → PrngReg), Pre_Kernel_rolled_31_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rolled_24_Kernel : Cert.Pre_rolled_24_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_1_Kernel [hKernelIdeal : Cert.KernelIdeal.Facts] [hPre_rolled_1_Kernel : Cert.Pre_rolled_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_1_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_2_Kernel [hKernelIdeal : Cert.KernelIdeal.Facts] [hPre_rolled_2_Kernel : Cert.Pre_rolled_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_3_Kernel [hKernelIdeal : Cert.KernelIdeal.Facts] [hPre_rolled_3_Kernel : Cert.Pre_rolled_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_4_Kernel [hKernelIdeal : Cert.KernelIdeal.Facts] [hPre_rolled_4_Kernel : Cert.Pre_rolled_4_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_4_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_5_Kernel [hKernelIdeal : Cert.KernelIdeal.Facts] [hPre_rolled_5_Kernel : Cert.Pre_rolled_5_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_5_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_6_Kernel [hKernelIdeal : Cert.KernelIdeal.Facts] [hPre_rolled_6_Kernel : Cert.Pre_rolled_6_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_6_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_7_Kernel [hKernelIdeal : Cert.KernelIdeal.Facts] [hPre_rolled_7_Kernel : Cert.Pre_rolled_7_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_7_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_8_Kernel [hKernelIdeal : Cert.KernelIdeal.Facts] [hPre_rolled_8_Kernel : Cert.Pre_rolled_8_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_8_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_9_Kernel [hKernelIdeal : Cert.KernelIdeal.Facts] [hPre_rolled_9_Kernel : Cert.Pre_rolled_9_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_9_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_10_Kernel [hKernelIdeal : Cert.KernelIdeal.Facts] [hPre_rolled_10_Kernel : Cert.Pre_rolled_10_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_10_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_11_Kernel [hKernelIdeal : Cert.KernelIdeal.Facts] [hPre_rolled_11_Kernel : Cert.Pre_rolled_11_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_11_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_12_Kernel [hKernelIdeal : Cert.KernelIdeal.Facts] [hPre_rolled_12_Kernel : Cert.Pre_rolled_12_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_12_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_13_Kernel [hKernelIdeal : Cert.KernelIdeal.Facts] [hPre_rolled_13_Kernel : Cert.Pre_rolled_13_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_13_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_14_Kernel [hKernelIdeal : Cert.KernelIdeal.Facts] [hPre_rolled_14_Kernel : Cert.Pre_rolled_14_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_14_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_15_Kernel [hKernelIdeal : Cert.KernelIdeal.Facts] [hPre_rolled_15_Kernel : Cert.Pre_rolled_15_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_15_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_16_Kernel [hKernelIdeal : Cert.KernelIdeal.Facts] [hPre_rolled_16_Kernel : Cert.Pre_rolled_16_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_16_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_17_Kernel [hKernelIdeal : Cert.KernelIdeal.Facts] [hPre_rolled_17_Kernel : Cert.Pre_rolled_17_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_17_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_18_Kernel [hKernelIdeal : Cert.KernelIdeal.Facts] [hPre_rolled_18_Kernel : Cert.Pre_rolled_18_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_18_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_19_Kernel [hKernelIdeal : Cert.KernelIdeal.Facts] [hPre_rolled_19_Kernel : Cert.Pre_rolled_19_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_19_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_20_Kernel [hKernelIdeal : Cert.KernelIdeal.Facts] [hPre_rolled_20_Kernel : Cert.Pre_rolled_20_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_20_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_21_Kernel [hKernelIdeal : Cert.KernelIdeal.Facts] [hPre_rolled_21_Kernel : Cert.Pre_rolled_21_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_21_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_22_Kernel [hKernelIdeal : Cert.KernelIdeal.Facts] [hPre_rolled_22_Kernel : Cert.Pre_rolled_22_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_22_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_23_Kernel [hKernelIdeal : Cert.KernelIdeal.Facts] [hPre_rolled_23_Kernel : Cert.Pre_rolled_23_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_23_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_25_Kernel [hKernelIdeal : Cert.KernelIdeal.Facts] [hPre_rolled_25_Kernel : Cert.Pre_rolled_25_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_25_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_26_Kernel [hKernelIdeal : Cert.KernelIdeal.Facts] [hPre_rolled_26_Kernel : Cert.Pre_rolled_26_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_26_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_27_Kernel [hKernelIdeal : Cert.KernelIdeal.Facts] [hPre_rolled_27_Kernel : Cert.Pre_rolled_27_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_27_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_28_Kernel [hKernelIdeal : Cert.KernelIdeal.Facts] [hPre_rolled_28_Kernel : Cert.Pre_rolled_28_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_28_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_29_Kernel [hKernelIdeal : Cert.KernelIdeal.Facts] [hPre_rolled_29_Kernel : Cert.Pre_rolled_29_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_29_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_30_Kernel [hKernelIdeal : Cert.KernelIdeal.Facts] [hPre_rolled_30_Kernel : Cert.Pre_rolled_30_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_30_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_31_Kernel [hKernelIdeal : Cert.KernelIdeal.Facts] [hPre_rolled_31_Kernel : Cert.Pre_rolled_31_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_31_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def preserves_Kernel_KernelIdeal : Prop :=
  True

def algebraic_KernelIdeal_ReferenceIdeal_pre_rolled_1_Kernel [hKernelIdeal : Cert.KernelIdeal.Facts] [hReferenceIdeal : Cert.ReferenceIdeal.Facts] [hPre_rolled_1_Kernel : Cert.Pre_rolled_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_1_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_2_Kernel [hKernelIdeal : Cert.KernelIdeal.Facts] [hReferenceIdeal : Cert.ReferenceIdeal.Facts] [hPre_rolled_2_Kernel : Cert.Pre_rolled_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_2_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_3_Kernel [hKernelIdeal : Cert.KernelIdeal.Facts] [hReferenceIdeal : Cert.ReferenceIdeal.Facts] [hPre_rolled_3_Kernel : Cert.Pre_rolled_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_3_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_4_Kernel [hKernelIdeal : Cert.KernelIdeal.Facts] [hReferenceIdeal : Cert.ReferenceIdeal.Facts] [hPre_rolled_4_Kernel : Cert.Pre_rolled_4_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_4_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_5_Kernel [hKernelIdeal : Cert.KernelIdeal.Facts] [hReferenceIdeal : Cert.ReferenceIdeal.Facts] [hPre_rolled_5_Kernel : Cert.Pre_rolled_5_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_5_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_6_Kernel [hKernelIdeal : Cert.KernelIdeal.Facts] [hReferenceIdeal : Cert.ReferenceIdeal.Facts] [hPre_rolled_6_Kernel : Cert.Pre_rolled_6_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_6_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_7_Kernel [hKernelIdeal : Cert.KernelIdeal.Facts] [hReferenceIdeal : Cert.ReferenceIdeal.Facts] [hPre_rolled_7_Kernel : Cert.Pre_rolled_7_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_7_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_8_Kernel [hKernelIdeal : Cert.KernelIdeal.Facts] [hReferenceIdeal : Cert.ReferenceIdeal.Facts] [hPre_rolled_8_Kernel : Cert.Pre_rolled_8_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_8_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_9_Kernel [hKernelIdeal : Cert.KernelIdeal.Facts] [hReferenceIdeal : Cert.ReferenceIdeal.Facts] [hPre_rolled_9_Kernel : Cert.Pre_rolled_9_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_9_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_10_Kernel [hKernelIdeal : Cert.KernelIdeal.Facts] [hReferenceIdeal : Cert.ReferenceIdeal.Facts] [hPre_rolled_10_Kernel : Cert.Pre_rolled_10_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_10_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_11_Kernel [hKernelIdeal : Cert.KernelIdeal.Facts] [hReferenceIdeal : Cert.ReferenceIdeal.Facts] [hPre_rolled_11_Kernel : Cert.Pre_rolled_11_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_11_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_12_Kernel [hKernelIdeal : Cert.KernelIdeal.Facts] [hReferenceIdeal : Cert.ReferenceIdeal.Facts] [hPre_rolled_12_Kernel : Cert.Pre_rolled_12_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_12_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_13_Kernel [hKernelIdeal : Cert.KernelIdeal.Facts] [hReferenceIdeal : Cert.ReferenceIdeal.Facts] [hPre_rolled_13_Kernel : Cert.Pre_rolled_13_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_13_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_14_Kernel [hKernelIdeal : Cert.KernelIdeal.Facts] [hReferenceIdeal : Cert.ReferenceIdeal.Facts] [hPre_rolled_14_Kernel : Cert.Pre_rolled_14_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_14_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_15_Kernel [hKernelIdeal : Cert.KernelIdeal.Facts] [hReferenceIdeal : Cert.ReferenceIdeal.Facts] [hPre_rolled_15_Kernel : Cert.Pre_rolled_15_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_15_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_16_Kernel [hKernelIdeal : Cert.KernelIdeal.Facts] [hReferenceIdeal : Cert.ReferenceIdeal.Facts] [hPre_rolled_16_Kernel : Cert.Pre_rolled_16_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_16_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_17_Kernel [hKernelIdeal : Cert.KernelIdeal.Facts] [hReferenceIdeal : Cert.ReferenceIdeal.Facts] [hPre_rolled_17_Kernel : Cert.Pre_rolled_17_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_17_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_18_Kernel [hKernelIdeal : Cert.KernelIdeal.Facts] [hReferenceIdeal : Cert.ReferenceIdeal.Facts] [hPre_rolled_18_Kernel : Cert.Pre_rolled_18_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_18_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_19_Kernel [hKernelIdeal : Cert.KernelIdeal.Facts] [hReferenceIdeal : Cert.ReferenceIdeal.Facts] [hPre_rolled_19_Kernel : Cert.Pre_rolled_19_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_19_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_20_Kernel [hKernelIdeal : Cert.KernelIdeal.Facts] [hReferenceIdeal : Cert.ReferenceIdeal.Facts] [hPre_rolled_20_Kernel : Cert.Pre_rolled_20_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_20_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_21_Kernel [hKernelIdeal : Cert.KernelIdeal.Facts] [hReferenceIdeal : Cert.ReferenceIdeal.Facts] [hPre_rolled_21_Kernel : Cert.Pre_rolled_21_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_21_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_22_Kernel [hKernelIdeal : Cert.KernelIdeal.Facts] [hReferenceIdeal : Cert.ReferenceIdeal.Facts] [hPre_rolled_22_Kernel : Cert.Pre_rolled_22_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_22_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_23_Kernel [hKernelIdeal : Cert.KernelIdeal.Facts] [hReferenceIdeal : Cert.ReferenceIdeal.Facts] [hPre_rolled_23_Kernel : Cert.Pre_rolled_23_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_23_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal [hKernelIdeal : Cert.KernelIdeal.Facts] [hReferenceIdeal : Cert.ReferenceIdeal.Facts] [hPre_rolled_24_Kernel : Cert.Pre_rolled_24_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_25_Kernel [hKernelIdeal : Cert.KernelIdeal.Facts] [hReferenceIdeal : Cert.ReferenceIdeal.Facts] [hPre_rolled_25_Kernel : Cert.Pre_rolled_25_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_25_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_26_Kernel [hKernelIdeal : Cert.KernelIdeal.Facts] [hReferenceIdeal : Cert.ReferenceIdeal.Facts] [hPre_rolled_26_Kernel : Cert.Pre_rolled_26_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_26_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_27_Kernel [hKernelIdeal : Cert.KernelIdeal.Facts] [hReferenceIdeal : Cert.ReferenceIdeal.Facts] [hPre_rolled_27_Kernel : Cert.Pre_rolled_27_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_27_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_28_Kernel [hKernelIdeal : Cert.KernelIdeal.Facts] [hReferenceIdeal : Cert.ReferenceIdeal.Facts] [hPre_rolled_28_Kernel : Cert.Pre_rolled_28_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_28_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_29_Kernel [hKernelIdeal : Cert.KernelIdeal.Facts] [hReferenceIdeal : Cert.ReferenceIdeal.Facts] [hPre_rolled_29_Kernel : Cert.Pre_rolled_29_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_29_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_30_Kernel [hKernelIdeal : Cert.KernelIdeal.Facts] [hReferenceIdeal : Cert.ReferenceIdeal.Facts] [hPre_rolled_30_Kernel : Cert.Pre_rolled_30_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_30_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_31_Kernel [hKernelIdeal : Cert.KernelIdeal.Facts] [hReferenceIdeal : Cert.ReferenceIdeal.Facts] [hPre_rolled_31_Kernel : Cert.Pre_rolled_31_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_31_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![32, 512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hReferenceIdeal : Cert.ReferenceIdeal.Facts) (hKernel : Cert.Kernel.Facts) (hKernelIdeal : Cert.KernelIdeal.Facts) (hPre_rolled_1_ReferenceIdeal : Cert.Pre_rolled_1_ReferenceIdeal.Facts) (hPre_rolled_2_ReferenceIdeal : Cert.Pre_rolled_2_ReferenceIdeal.Facts) (hPre_rolled_3_ReferenceIdeal : Cert.Pre_rolled_3_ReferenceIdeal.Facts) (hPre_rolled_4_ReferenceIdeal : Cert.Pre_rolled_4_ReferenceIdeal.Facts) (hPre_rolled_5_ReferenceIdeal : Cert.Pre_rolled_5_ReferenceIdeal.Facts) (hPre_rolled_6_ReferenceIdeal : Cert.Pre_rolled_6_ReferenceIdeal.Facts) (hPre_rolled_7_ReferenceIdeal : Cert.Pre_rolled_7_ReferenceIdeal.Facts) (hPre_rolled_8_ReferenceIdeal : Cert.Pre_rolled_8_ReferenceIdeal.Facts) (hPre_rolled_9_ReferenceIdeal : Cert.Pre_rolled_9_ReferenceIdeal.Facts) (hPre_rolled_10_ReferenceIdeal : Cert.Pre_rolled_10_ReferenceIdeal.Facts) (hPre_rolled_11_ReferenceIdeal : Cert.Pre_rolled_11_ReferenceIdeal.Facts) (hPre_rolled_12_ReferenceIdeal : Cert.Pre_rolled_12_ReferenceIdeal.Facts) (hPre_rolled_13_ReferenceIdeal : Cert.Pre_rolled_13_ReferenceIdeal.Facts) (hPre_rolled_14_ReferenceIdeal : Cert.Pre_rolled_14_ReferenceIdeal.Facts) (hPre_rolled_15_ReferenceIdeal : Cert.Pre_rolled_15_ReferenceIdeal.Facts) (hPre_rolled_16_ReferenceIdeal : Cert.Pre_rolled_16_ReferenceIdeal.Facts) (hPre_rolled_17_ReferenceIdeal : Cert.Pre_rolled_17_ReferenceIdeal.Facts) (hPre_rolled_18_ReferenceIdeal : Cert.Pre_rolled_18_ReferenceIdeal.Facts) (hPre_rolled_19_ReferenceIdeal : Cert.Pre_rolled_19_ReferenceIdeal.Facts) (hPre_rolled_20_ReferenceIdeal : Cert.Pre_rolled_20_ReferenceIdeal.Facts) (hPre_rolled_21_ReferenceIdeal : Cert.Pre_rolled_21_ReferenceIdeal.Facts) (hPre_rolled_22_ReferenceIdeal : Cert.Pre_rolled_22_ReferenceIdeal.Facts) (hPre_rolled_23_ReferenceIdeal : Cert.Pre_rolled_23_ReferenceIdeal.Facts) (hPre_rolled_24_ReferenceIdeal : Cert.Pre_rolled_24_ReferenceIdeal.Facts) (hPre_rolled_25_ReferenceIdeal : Cert.Pre_rolled_25_ReferenceIdeal.Facts) (hPre_rolled_26_ReferenceIdeal : Cert.Pre_rolled_26_ReferenceIdeal.Facts) (hPre_rolled_27_ReferenceIdeal : Cert.Pre_rolled_27_ReferenceIdeal.Facts) (hPre_rolled_28_ReferenceIdeal : Cert.Pre_rolled_28_ReferenceIdeal.Facts) (hPre_rolled_29_ReferenceIdeal : Cert.Pre_rolled_29_ReferenceIdeal.Facts) (hPre_rolled_30_ReferenceIdeal : Cert.Pre_rolled_30_ReferenceIdeal.Facts) (hPre_rolled_31_ReferenceIdeal : Cert.Pre_rolled_31_ReferenceIdeal.Facts) (hPre_rolled_24_Kernel : Cert.Pre_rolled_24_Kernel.Facts) (hPre_rolled_1_Kernel : Cert.Pre_rolled_1_Kernel.Facts) (hPre_rolled_2_Kernel : Cert.Pre_rolled_2_Kernel.Facts) (hPre_rolled_3_Kernel : Cert.Pre_rolled_3_Kernel.Facts) (hPre_rolled_4_Kernel : Cert.Pre_rolled_4_Kernel.Facts) (hPre_rolled_5_Kernel : Cert.Pre_rolled_5_Kernel.Facts) (hPre_rolled_6_Kernel : Cert.Pre_rolled_6_Kernel.Facts) (hPre_rolled_7_Kernel : Cert.Pre_rolled_7_Kernel.Facts) (hPre_rolled_8_Kernel : Cert.Pre_rolled_8_Kernel.Facts) (hPre_rolled_9_Kernel : Cert.Pre_rolled_9_Kernel.Facts) (hPre_rolled_10_Kernel : Cert.Pre_rolled_10_Kernel.Facts) (hPre_rolled_11_Kernel : Cert.Pre_rolled_11_Kernel.Facts) (hPre_rolled_12_Kernel : Cert.Pre_rolled_12_Kernel.Facts) (hPre_rolled_13_Kernel : Cert.Pre_rolled_13_Kernel.Facts) (hPre_rolled_14_Kernel : Cert.Pre_rolled_14_Kernel.Facts) (hPre_rolled_15_Kernel : Cert.Pre_rolled_15_Kernel.Facts) (hPre_rolled_16_Kernel : Cert.Pre_rolled_16_Kernel.Facts) (hPre_rolled_17_Kernel : Cert.Pre_rolled_17_Kernel.Facts) (hPre_rolled_18_Kernel : Cert.Pre_rolled_18_Kernel.Facts) (hPre_rolled_19_Kernel : Cert.Pre_rolled_19_Kernel.Facts) (hPre_rolled_20_Kernel : Cert.Pre_rolled_20_Kernel.Facts) (hPre_rolled_21_Kernel : Cert.Pre_rolled_21_Kernel.Facts) (hPre_rolled_22_Kernel : Cert.Pre_rolled_22_Kernel.Facts) (hPre_rolled_23_Kernel : Cert.Pre_rolled_23_Kernel.Facts) (hPre_rolled_25_Kernel : Cert.Pre_rolled_25_Kernel.Facts) (hPre_rolled_26_Kernel : Cert.Pre_rolled_26_Kernel.Facts) (hPre_rolled_27_Kernel : Cert.Pre_rolled_27_Kernel.Facts) (hPre_rolled_28_Kernel : Cert.Pre_rolled_28_Kernel.Facts) (hPre_rolled_29_Kernel : Cert.Pre_rolled_29_Kernel.Facts) (hPre_rolled_30_Kernel : Cert.Pre_rolled_30_Kernel.Facts) (hPre_rolled_31_Kernel : Cert.Pre_rolled_31_Kernel.Facts),
    quiescent_ReferenceIdeal (hReferenceIdeal := hReferenceIdeal)
    ∧ quiescent_ReferenceIdeal_pre_rolled_1_ReferenceIdeal (hReferenceIdeal := hReferenceIdeal) (hPre_rolled_1_ReferenceIdeal := hPre_rolled_1_ReferenceIdeal)
    ∧ quiescent_ReferenceIdeal_pre_rolled_2_ReferenceIdeal (hReferenceIdeal := hReferenceIdeal) (hPre_rolled_2_ReferenceIdeal := hPre_rolled_2_ReferenceIdeal)
    ∧ quiescent_ReferenceIdeal_pre_rolled_3_ReferenceIdeal (hReferenceIdeal := hReferenceIdeal) (hPre_rolled_3_ReferenceIdeal := hPre_rolled_3_ReferenceIdeal)
    ∧ quiescent_ReferenceIdeal_pre_rolled_4_ReferenceIdeal (hReferenceIdeal := hReferenceIdeal) (hPre_rolled_4_ReferenceIdeal := hPre_rolled_4_ReferenceIdeal)
    ∧ quiescent_ReferenceIdeal_pre_rolled_5_ReferenceIdeal (hReferenceIdeal := hReferenceIdeal) (hPre_rolled_5_ReferenceIdeal := hPre_rolled_5_ReferenceIdeal)
    ∧ quiescent_ReferenceIdeal_pre_rolled_6_ReferenceIdeal (hReferenceIdeal := hReferenceIdeal) (hPre_rolled_6_ReferenceIdeal := hPre_rolled_6_ReferenceIdeal)
    ∧ quiescent_ReferenceIdeal_pre_rolled_7_ReferenceIdeal (hReferenceIdeal := hReferenceIdeal) (hPre_rolled_7_ReferenceIdeal := hPre_rolled_7_ReferenceIdeal)
    ∧ quiescent_ReferenceIdeal_pre_rolled_8_ReferenceIdeal (hReferenceIdeal := hReferenceIdeal) (hPre_rolled_8_ReferenceIdeal := hPre_rolled_8_ReferenceIdeal)
    ∧ quiescent_ReferenceIdeal_pre_rolled_9_ReferenceIdeal (hReferenceIdeal := hReferenceIdeal) (hPre_rolled_9_ReferenceIdeal := hPre_rolled_9_ReferenceIdeal)
    ∧ quiescent_ReferenceIdeal_pre_rolled_10_ReferenceIdeal (hReferenceIdeal := hReferenceIdeal) (hPre_rolled_10_ReferenceIdeal := hPre_rolled_10_ReferenceIdeal)
    ∧ quiescent_ReferenceIdeal_pre_rolled_11_ReferenceIdeal (hReferenceIdeal := hReferenceIdeal) (hPre_rolled_11_ReferenceIdeal := hPre_rolled_11_ReferenceIdeal)
    ∧ quiescent_ReferenceIdeal_pre_rolled_12_ReferenceIdeal (hReferenceIdeal := hReferenceIdeal) (hPre_rolled_12_ReferenceIdeal := hPre_rolled_12_ReferenceIdeal)
    ∧ quiescent_ReferenceIdeal_pre_rolled_13_ReferenceIdeal (hReferenceIdeal := hReferenceIdeal) (hPre_rolled_13_ReferenceIdeal := hPre_rolled_13_ReferenceIdeal)
    ∧ quiescent_ReferenceIdeal_pre_rolled_14_ReferenceIdeal (hReferenceIdeal := hReferenceIdeal) (hPre_rolled_14_ReferenceIdeal := hPre_rolled_14_ReferenceIdeal)
    ∧ quiescent_ReferenceIdeal_pre_rolled_15_ReferenceIdeal (hReferenceIdeal := hReferenceIdeal) (hPre_rolled_15_ReferenceIdeal := hPre_rolled_15_ReferenceIdeal)
    ∧ quiescent_ReferenceIdeal_pre_rolled_16_ReferenceIdeal (hReferenceIdeal := hReferenceIdeal) (hPre_rolled_16_ReferenceIdeal := hPre_rolled_16_ReferenceIdeal)
    ∧ quiescent_ReferenceIdeal_pre_rolled_17_ReferenceIdeal (hReferenceIdeal := hReferenceIdeal) (hPre_rolled_17_ReferenceIdeal := hPre_rolled_17_ReferenceIdeal)
    ∧ quiescent_ReferenceIdeal_pre_rolled_18_ReferenceIdeal (hReferenceIdeal := hReferenceIdeal) (hPre_rolled_18_ReferenceIdeal := hPre_rolled_18_ReferenceIdeal)
    ∧ quiescent_ReferenceIdeal_pre_rolled_19_ReferenceIdeal (hReferenceIdeal := hReferenceIdeal) (hPre_rolled_19_ReferenceIdeal := hPre_rolled_19_ReferenceIdeal)
    ∧ quiescent_ReferenceIdeal_pre_rolled_20_ReferenceIdeal (hReferenceIdeal := hReferenceIdeal) (hPre_rolled_20_ReferenceIdeal := hPre_rolled_20_ReferenceIdeal)
    ∧ quiescent_ReferenceIdeal_pre_rolled_21_ReferenceIdeal (hReferenceIdeal := hReferenceIdeal) (hPre_rolled_21_ReferenceIdeal := hPre_rolled_21_ReferenceIdeal)
    ∧ quiescent_ReferenceIdeal_pre_rolled_22_ReferenceIdeal (hReferenceIdeal := hReferenceIdeal) (hPre_rolled_22_ReferenceIdeal := hPre_rolled_22_ReferenceIdeal)
    ∧ quiescent_ReferenceIdeal_pre_rolled_23_ReferenceIdeal (hReferenceIdeal := hReferenceIdeal) (hPre_rolled_23_ReferenceIdeal := hPre_rolled_23_ReferenceIdeal)
    ∧ quiescent_ReferenceIdeal_pre_rolled_24_ReferenceIdeal (hReferenceIdeal := hReferenceIdeal) (hPre_rolled_24_ReferenceIdeal := hPre_rolled_24_ReferenceIdeal)
    ∧ quiescent_ReferenceIdeal_pre_rolled_25_ReferenceIdeal (hReferenceIdeal := hReferenceIdeal) (hPre_rolled_25_ReferenceIdeal := hPre_rolled_25_ReferenceIdeal)
    ∧ quiescent_ReferenceIdeal_pre_rolled_26_ReferenceIdeal (hReferenceIdeal := hReferenceIdeal) (hPre_rolled_26_ReferenceIdeal := hPre_rolled_26_ReferenceIdeal)
    ∧ quiescent_ReferenceIdeal_pre_rolled_27_ReferenceIdeal (hReferenceIdeal := hReferenceIdeal) (hPre_rolled_27_ReferenceIdeal := hPre_rolled_27_ReferenceIdeal)
    ∧ quiescent_ReferenceIdeal_pre_rolled_28_ReferenceIdeal (hReferenceIdeal := hReferenceIdeal) (hPre_rolled_28_ReferenceIdeal := hPre_rolled_28_ReferenceIdeal)
    ∧ quiescent_ReferenceIdeal_pre_rolled_29_ReferenceIdeal (hReferenceIdeal := hReferenceIdeal) (hPre_rolled_29_ReferenceIdeal := hPre_rolled_29_ReferenceIdeal)
    ∧ quiescent_ReferenceIdeal_pre_rolled_30_ReferenceIdeal (hReferenceIdeal := hReferenceIdeal) (hPre_rolled_30_ReferenceIdeal := hPre_rolled_30_ReferenceIdeal)
    ∧ quiescent_ReferenceIdeal_pre_rolled_31_ReferenceIdeal (hReferenceIdeal := hReferenceIdeal) (hPre_rolled_31_ReferenceIdeal := hPre_rolled_31_ReferenceIdeal)
    ∧ quiescent_Kernel (hKernel := hKernel) (hPre_rolled_24_Kernel := hPre_rolled_24_Kernel)
    ∧ quiescent_Kernel_pre_rolled_1_Kernel (hKernel := hKernel) (hPre_rolled_1_Kernel := hPre_rolled_1_Kernel)
    ∧ quiescent_Kernel_pre_rolled_2_Kernel (hKernel := hKernel) (hPre_rolled_2_Kernel := hPre_rolled_2_Kernel)
    ∧ quiescent_Kernel_pre_rolled_3_Kernel (hKernel := hKernel) (hPre_rolled_3_Kernel := hPre_rolled_3_Kernel)
    ∧ quiescent_Kernel_pre_rolled_4_Kernel (hKernel := hKernel) (hPre_rolled_4_Kernel := hPre_rolled_4_Kernel)
    ∧ quiescent_Kernel_pre_rolled_5_Kernel (hKernel := hKernel) (hPre_rolled_5_Kernel := hPre_rolled_5_Kernel)
    ∧ quiescent_Kernel_pre_rolled_6_Kernel (hKernel := hKernel) (hPre_rolled_6_Kernel := hPre_rolled_6_Kernel)
    ∧ quiescent_Kernel_pre_rolled_7_Kernel (hKernel := hKernel) (hPre_rolled_7_Kernel := hPre_rolled_7_Kernel)
    ∧ quiescent_Kernel_pre_rolled_8_Kernel (hKernel := hKernel) (hPre_rolled_8_Kernel := hPre_rolled_8_Kernel)
    ∧ quiescent_Kernel_pre_rolled_9_Kernel (hKernel := hKernel) (hPre_rolled_9_Kernel := hPre_rolled_9_Kernel)
    ∧ quiescent_Kernel_pre_rolled_10_Kernel (hKernel := hKernel) (hPre_rolled_10_Kernel := hPre_rolled_10_Kernel)
    ∧ quiescent_Kernel_pre_rolled_11_Kernel (hKernel := hKernel) (hPre_rolled_11_Kernel := hPre_rolled_11_Kernel)
    ∧ quiescent_Kernel_pre_rolled_12_Kernel (hKernel := hKernel) (hPre_rolled_12_Kernel := hPre_rolled_12_Kernel)
    ∧ quiescent_Kernel_pre_rolled_13_Kernel (hKernel := hKernel) (hPre_rolled_13_Kernel := hPre_rolled_13_Kernel)
    ∧ quiescent_Kernel_pre_rolled_14_Kernel (hKernel := hKernel) (hPre_rolled_14_Kernel := hPre_rolled_14_Kernel)
    ∧ quiescent_Kernel_pre_rolled_15_Kernel (hKernel := hKernel) (hPre_rolled_15_Kernel := hPre_rolled_15_Kernel)
    ∧ quiescent_Kernel_pre_rolled_16_Kernel (hKernel := hKernel) (hPre_rolled_16_Kernel := hPre_rolled_16_Kernel)
    ∧ quiescent_Kernel_pre_rolled_17_Kernel (hKernel := hKernel) (hPre_rolled_17_Kernel := hPre_rolled_17_Kernel)
    ∧ quiescent_Kernel_pre_rolled_18_Kernel (hKernel := hKernel) (hPre_rolled_18_Kernel := hPre_rolled_18_Kernel)
    ∧ quiescent_Kernel_pre_rolled_19_Kernel (hKernel := hKernel) (hPre_rolled_19_Kernel := hPre_rolled_19_Kernel)
    ∧ quiescent_Kernel_pre_rolled_20_Kernel (hKernel := hKernel) (hPre_rolled_20_Kernel := hPre_rolled_20_Kernel)
    ∧ quiescent_Kernel_pre_rolled_21_Kernel (hKernel := hKernel) (hPre_rolled_21_Kernel := hPre_rolled_21_Kernel)
    ∧ quiescent_Kernel_pre_rolled_22_Kernel (hKernel := hKernel) (hPre_rolled_22_Kernel := hPre_rolled_22_Kernel)
    ∧ quiescent_Kernel_pre_rolled_23_Kernel (hKernel := hKernel) (hPre_rolled_23_Kernel := hPre_rolled_23_Kernel)
    ∧ quiescent_Kernel_pre_rolled_25_Kernel (hKernel := hKernel) (hPre_rolled_25_Kernel := hPre_rolled_25_Kernel)
    ∧ quiescent_Kernel_pre_rolled_26_Kernel (hKernel := hKernel) (hPre_rolled_26_Kernel := hPre_rolled_26_Kernel)
    ∧ quiescent_Kernel_pre_rolled_27_Kernel (hKernel := hKernel) (hPre_rolled_27_Kernel := hPre_rolled_27_Kernel)
    ∧ quiescent_Kernel_pre_rolled_28_Kernel (hKernel := hKernel) (hPre_rolled_28_Kernel := hPre_rolled_28_Kernel)
    ∧ quiescent_Kernel_pre_rolled_29_Kernel (hKernel := hKernel) (hPre_rolled_29_Kernel := hPre_rolled_29_Kernel)
    ∧ quiescent_Kernel_pre_rolled_30_Kernel (hKernel := hKernel) (hPre_rolled_30_Kernel := hPre_rolled_30_Kernel)
    ∧ quiescent_Kernel_pre_rolled_31_Kernel (hKernel := hKernel) (hPre_rolled_31_Kernel := hPre_rolled_31_Kernel)
    ∧ quiescent_KernelIdeal (hKernelIdeal := hKernelIdeal) (hPre_rolled_24_Kernel := hPre_rolled_24_Kernel)
    ∧ quiescent_KernelIdeal_pre_rolled_1_Kernel (hKernelIdeal := hKernelIdeal) (hPre_rolled_1_Kernel := hPre_rolled_1_Kernel)
    ∧ quiescent_KernelIdeal_pre_rolled_2_Kernel (hKernelIdeal := hKernelIdeal) (hPre_rolled_2_Kernel := hPre_rolled_2_Kernel)
    ∧ quiescent_KernelIdeal_pre_rolled_3_Kernel (hKernelIdeal := hKernelIdeal) (hPre_rolled_3_Kernel := hPre_rolled_3_Kernel)
    ∧ quiescent_KernelIdeal_pre_rolled_4_Kernel (hKernelIdeal := hKernelIdeal) (hPre_rolled_4_Kernel := hPre_rolled_4_Kernel)
    ∧ quiescent_KernelIdeal_pre_rolled_5_Kernel (hKernelIdeal := hKernelIdeal) (hPre_rolled_5_Kernel := hPre_rolled_5_Kernel)
    ∧ quiescent_KernelIdeal_pre_rolled_6_Kernel (hKernelIdeal := hKernelIdeal) (hPre_rolled_6_Kernel := hPre_rolled_6_Kernel)
    ∧ quiescent_KernelIdeal_pre_rolled_7_Kernel (hKernelIdeal := hKernelIdeal) (hPre_rolled_7_Kernel := hPre_rolled_7_Kernel)
    ∧ quiescent_KernelIdeal_pre_rolled_8_Kernel (hKernelIdeal := hKernelIdeal) (hPre_rolled_8_Kernel := hPre_rolled_8_Kernel)
    ∧ quiescent_KernelIdeal_pre_rolled_9_Kernel (hKernelIdeal := hKernelIdeal) (hPre_rolled_9_Kernel := hPre_rolled_9_Kernel)
    ∧ quiescent_KernelIdeal_pre_rolled_10_Kernel (hKernelIdeal := hKernelIdeal) (hPre_rolled_10_Kernel := hPre_rolled_10_Kernel)
    ∧ quiescent_KernelIdeal_pre_rolled_11_Kernel (hKernelIdeal := hKernelIdeal) (hPre_rolled_11_Kernel := hPre_rolled_11_Kernel)
    ∧ quiescent_KernelIdeal_pre_rolled_12_Kernel (hKernelIdeal := hKernelIdeal) (hPre_rolled_12_Kernel := hPre_rolled_12_Kernel)
    ∧ quiescent_KernelIdeal_pre_rolled_13_Kernel (hKernelIdeal := hKernelIdeal) (hPre_rolled_13_Kernel := hPre_rolled_13_Kernel)
    ∧ quiescent_KernelIdeal_pre_rolled_14_Kernel (hKernelIdeal := hKernelIdeal) (hPre_rolled_14_Kernel := hPre_rolled_14_Kernel)
    ∧ quiescent_KernelIdeal_pre_rolled_15_Kernel (hKernelIdeal := hKernelIdeal) (hPre_rolled_15_Kernel := hPre_rolled_15_Kernel)
    ∧ quiescent_KernelIdeal_pre_rolled_16_Kernel (hKernelIdeal := hKernelIdeal) (hPre_rolled_16_Kernel := hPre_rolled_16_Kernel)
    ∧ quiescent_KernelIdeal_pre_rolled_17_Kernel (hKernelIdeal := hKernelIdeal) (hPre_rolled_17_Kernel := hPre_rolled_17_Kernel)
    ∧ quiescent_KernelIdeal_pre_rolled_18_Kernel (hKernelIdeal := hKernelIdeal) (hPre_rolled_18_Kernel := hPre_rolled_18_Kernel)
    ∧ quiescent_KernelIdeal_pre_rolled_19_Kernel (hKernelIdeal := hKernelIdeal) (hPre_rolled_19_Kernel := hPre_rolled_19_Kernel)
    ∧ quiescent_KernelIdeal_pre_rolled_20_Kernel (hKernelIdeal := hKernelIdeal) (hPre_rolled_20_Kernel := hPre_rolled_20_Kernel)
    ∧ quiescent_KernelIdeal_pre_rolled_21_Kernel (hKernelIdeal := hKernelIdeal) (hPre_rolled_21_Kernel := hPre_rolled_21_Kernel)
    ∧ quiescent_KernelIdeal_pre_rolled_22_Kernel (hKernelIdeal := hKernelIdeal) (hPre_rolled_22_Kernel := hPre_rolled_22_Kernel)
    ∧ quiescent_KernelIdeal_pre_rolled_23_Kernel (hKernelIdeal := hKernelIdeal) (hPre_rolled_23_Kernel := hPre_rolled_23_Kernel)
    ∧ quiescent_KernelIdeal_pre_rolled_25_Kernel (hKernelIdeal := hKernelIdeal) (hPre_rolled_25_Kernel := hPre_rolled_25_Kernel)
    ∧ quiescent_KernelIdeal_pre_rolled_26_Kernel (hKernelIdeal := hKernelIdeal) (hPre_rolled_26_Kernel := hPre_rolled_26_Kernel)
    ∧ quiescent_KernelIdeal_pre_rolled_27_Kernel (hKernelIdeal := hKernelIdeal) (hPre_rolled_27_Kernel := hPre_rolled_27_Kernel)
    ∧ quiescent_KernelIdeal_pre_rolled_28_Kernel (hKernelIdeal := hKernelIdeal) (hPre_rolled_28_Kernel := hPre_rolled_28_Kernel)
    ∧ quiescent_KernelIdeal_pre_rolled_29_Kernel (hKernelIdeal := hKernelIdeal) (hPre_rolled_29_Kernel := hPre_rolled_29_Kernel)
    ∧ quiescent_KernelIdeal_pre_rolled_30_Kernel (hKernelIdeal := hKernelIdeal) (hPre_rolled_30_Kernel := hPre_rolled_30_Kernel)
    ∧ quiescent_KernelIdeal_pre_rolled_31_Kernel (hKernelIdeal := hKernelIdeal) (hPre_rolled_31_Kernel := hPre_rolled_31_Kernel)
    ∧ preserves_Kernel_KernelIdeal
    ∧ algebraic_KernelIdeal_ReferenceIdeal_pre_rolled_1_Kernel (hKernelIdeal := hKernelIdeal) (hReferenceIdeal := hReferenceIdeal) (hPre_rolled_1_Kernel := hPre_rolled_1_Kernel)
    ∧ algebraic_KernelIdeal_ReferenceIdeal_pre_rolled_2_Kernel (hKernelIdeal := hKernelIdeal) (hReferenceIdeal := hReferenceIdeal) (hPre_rolled_2_Kernel := hPre_rolled_2_Kernel)
    ∧ algebraic_KernelIdeal_ReferenceIdeal_pre_rolled_3_Kernel (hKernelIdeal := hKernelIdeal) (hReferenceIdeal := hReferenceIdeal) (hPre_rolled_3_Kernel := hPre_rolled_3_Kernel)
    ∧ algebraic_KernelIdeal_ReferenceIdeal_pre_rolled_4_Kernel (hKernelIdeal := hKernelIdeal) (hReferenceIdeal := hReferenceIdeal) (hPre_rolled_4_Kernel := hPre_rolled_4_Kernel)
    ∧ algebraic_KernelIdeal_ReferenceIdeal_pre_rolled_5_Kernel (hKernelIdeal := hKernelIdeal) (hReferenceIdeal := hReferenceIdeal) (hPre_rolled_5_Kernel := hPre_rolled_5_Kernel)
    ∧ algebraic_KernelIdeal_ReferenceIdeal_pre_rolled_6_Kernel (hKernelIdeal := hKernelIdeal) (hReferenceIdeal := hReferenceIdeal) (hPre_rolled_6_Kernel := hPre_rolled_6_Kernel)
    ∧ algebraic_KernelIdeal_ReferenceIdeal_pre_rolled_7_Kernel (hKernelIdeal := hKernelIdeal) (hReferenceIdeal := hReferenceIdeal) (hPre_rolled_7_Kernel := hPre_rolled_7_Kernel)
    ∧ algebraic_KernelIdeal_ReferenceIdeal_pre_rolled_8_Kernel (hKernelIdeal := hKernelIdeal) (hReferenceIdeal := hReferenceIdeal) (hPre_rolled_8_Kernel := hPre_rolled_8_Kernel)
    ∧ algebraic_KernelIdeal_ReferenceIdeal_pre_rolled_9_Kernel (hKernelIdeal := hKernelIdeal) (hReferenceIdeal := hReferenceIdeal) (hPre_rolled_9_Kernel := hPre_rolled_9_Kernel)
    ∧ algebraic_KernelIdeal_ReferenceIdeal_pre_rolled_10_Kernel (hKernelIdeal := hKernelIdeal) (hReferenceIdeal := hReferenceIdeal) (hPre_rolled_10_Kernel := hPre_rolled_10_Kernel)
    ∧ algebraic_KernelIdeal_ReferenceIdeal_pre_rolled_11_Kernel (hKernelIdeal := hKernelIdeal) (hReferenceIdeal := hReferenceIdeal) (hPre_rolled_11_Kernel := hPre_rolled_11_Kernel)
    ∧ algebraic_KernelIdeal_ReferenceIdeal_pre_rolled_12_Kernel (hKernelIdeal := hKernelIdeal) (hReferenceIdeal := hReferenceIdeal) (hPre_rolled_12_Kernel := hPre_rolled_12_Kernel)
    ∧ algebraic_KernelIdeal_ReferenceIdeal_pre_rolled_13_Kernel (hKernelIdeal := hKernelIdeal) (hReferenceIdeal := hReferenceIdeal) (hPre_rolled_13_Kernel := hPre_rolled_13_Kernel)
    ∧ algebraic_KernelIdeal_ReferenceIdeal_pre_rolled_14_Kernel (hKernelIdeal := hKernelIdeal) (hReferenceIdeal := hReferenceIdeal) (hPre_rolled_14_Kernel := hPre_rolled_14_Kernel)
    ∧ algebraic_KernelIdeal_ReferenceIdeal_pre_rolled_15_Kernel (hKernelIdeal := hKernelIdeal) (hReferenceIdeal := hReferenceIdeal) (hPre_rolled_15_Kernel := hPre_rolled_15_Kernel)
    ∧ algebraic_KernelIdeal_ReferenceIdeal_pre_rolled_16_Kernel (hKernelIdeal := hKernelIdeal) (hReferenceIdeal := hReferenceIdeal) (hPre_rolled_16_Kernel := hPre_rolled_16_Kernel)
    ∧ algebraic_KernelIdeal_ReferenceIdeal_pre_rolled_17_Kernel (hKernelIdeal := hKernelIdeal) (hReferenceIdeal := hReferenceIdeal) (hPre_rolled_17_Kernel := hPre_rolled_17_Kernel)
    ∧ algebraic_KernelIdeal_ReferenceIdeal_pre_rolled_18_Kernel (hKernelIdeal := hKernelIdeal) (hReferenceIdeal := hReferenceIdeal) (hPre_rolled_18_Kernel := hPre_rolled_18_Kernel)
    ∧ algebraic_KernelIdeal_ReferenceIdeal_pre_rolled_19_Kernel (hKernelIdeal := hKernelIdeal) (hReferenceIdeal := hReferenceIdeal) (hPre_rolled_19_Kernel := hPre_rolled_19_Kernel)
    ∧ algebraic_KernelIdeal_ReferenceIdeal_pre_rolled_20_Kernel (hKernelIdeal := hKernelIdeal) (hReferenceIdeal := hReferenceIdeal) (hPre_rolled_20_Kernel := hPre_rolled_20_Kernel)
    ∧ algebraic_KernelIdeal_ReferenceIdeal_pre_rolled_21_Kernel (hKernelIdeal := hKernelIdeal) (hReferenceIdeal := hReferenceIdeal) (hPre_rolled_21_Kernel := hPre_rolled_21_Kernel)
    ∧ algebraic_KernelIdeal_ReferenceIdeal_pre_rolled_22_Kernel (hKernelIdeal := hKernelIdeal) (hReferenceIdeal := hReferenceIdeal) (hPre_rolled_22_Kernel := hPre_rolled_22_Kernel)
    ∧ algebraic_KernelIdeal_ReferenceIdeal_pre_rolled_23_Kernel (hKernelIdeal := hKernelIdeal) (hReferenceIdeal := hReferenceIdeal) (hPre_rolled_23_Kernel := hPre_rolled_23_Kernel)
    ∧ algebraic_KernelIdeal_ReferenceIdeal (hKernelIdeal := hKernelIdeal) (hReferenceIdeal := hReferenceIdeal) (hPre_rolled_24_Kernel := hPre_rolled_24_Kernel)
    ∧ algebraic_KernelIdeal_ReferenceIdeal_pre_rolled_25_Kernel (hKernelIdeal := hKernelIdeal) (hReferenceIdeal := hReferenceIdeal) (hPre_rolled_25_Kernel := hPre_rolled_25_Kernel)
    ∧ algebraic_KernelIdeal_ReferenceIdeal_pre_rolled_26_Kernel (hKernelIdeal := hKernelIdeal) (hReferenceIdeal := hReferenceIdeal) (hPre_rolled_26_Kernel := hPre_rolled_26_Kernel)
    ∧ algebraic_KernelIdeal_ReferenceIdeal_pre_rolled_27_Kernel (hKernelIdeal := hKernelIdeal) (hReferenceIdeal := hReferenceIdeal) (hPre_rolled_27_Kernel := hPre_rolled_27_Kernel)
    ∧ algebraic_KernelIdeal_ReferenceIdeal_pre_rolled_28_Kernel (hKernelIdeal := hKernelIdeal) (hReferenceIdeal := hReferenceIdeal) (hPre_rolled_28_Kernel := hPre_rolled_28_Kernel)
    ∧ algebraic_KernelIdeal_ReferenceIdeal_pre_rolled_29_Kernel (hKernelIdeal := hKernelIdeal) (hReferenceIdeal := hReferenceIdeal) (hPre_rolled_29_Kernel := hPre_rolled_29_Kernel)
    ∧ algebraic_KernelIdeal_ReferenceIdeal_pre_rolled_30_Kernel (hKernelIdeal := hKernelIdeal) (hReferenceIdeal := hReferenceIdeal) (hPre_rolled_30_Kernel := hPre_rolled_30_Kernel)
    ∧ algebraic_KernelIdeal_ReferenceIdeal_pre_rolled_31_Kernel (hKernelIdeal := hKernelIdeal) (hReferenceIdeal := hReferenceIdeal) (hPre_rolled_31_Kernel := hPre_rolled_31_Kernel)
-- ==== Pre_rolled_10_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 22#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_10_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 22#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_11_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 21#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_11_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 21#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_12_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 20#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_12_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 20#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_13_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 19#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_13_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 19#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_14_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 18#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_14_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 18#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_15_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 17#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_15_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 17#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_16_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 16#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_16_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 16#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_17_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 15#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_17_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 15#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_18_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 14#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_18_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 14#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_19_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 13#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_19_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 13#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_1_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 31#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_1_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 31#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_20_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 12#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_20_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 12#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_21_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 11#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_21_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 11#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_22_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 10#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_22_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 10#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_23_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 9#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_23_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 9#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_24_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 8#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_24_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 8#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_25_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 7#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_25_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 7#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_26_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 6#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_26_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 6#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_27_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 5#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_27_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 5#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_28_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 4#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_28_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 4#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_29_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 3#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_29_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 3#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_2_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 30#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_2_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 30#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_30_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 2#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_30_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 2#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_31_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 1#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_31_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 1#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_3_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 29#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_3_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 29#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_4_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 28#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_4_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 28#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_5_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 27#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_5_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 27#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_6_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 26#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_6_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 26#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_7_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 25#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_7_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 25#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_8_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 24#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_8_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 24#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_9_Kernel.lean ====
abbrev S1x512x512 : Shape := ⟨3, ![1, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S1x512x512 .f32) (main_arg1 : IVec S32 32) : IVec S32 1 :=
  let main_v0 : IVec S32 32 := iotaInDim S32 32 0
  let main_c : IVec S_ 32 := constantI S_ 32 23#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== Pre_rolled_9_ReferenceIdeal.lean ====
abbrev S32x512x512 : Shape := ⟨3, ![32, 512, 512]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x512x512 .f32) (main_arg1 : IVec S32 32) : IVec S32 1 :=
  let main_v0 : IVec S32 32 := iotaInDim S32 32 0
  let main_c : IVec S_ 32 := constantI S_ 32 23#32
  let main_v1 : IVec S32 32 := broadcastInDim S32 ![] bcast_S_S32 main_c
  let main_v2 : IVec S32 32 := addi main_v0 main_v1
  let main_c_0 : IVec S_ 32 := constantI S_ 32 31#32
  let main_v3 : IVec S32 32 := broadcastInDim S32 ![] bcast_S_S32 main_c_0
  let main_v4 : IVec S32 32 := andi main_v2 main_v3
  let main_v5 : IVec S32 1 := cmpi .eq main_arg1 main_v4
  main_v5
-- ==== ReferenceIdeal.lean ====
abbrev S32x512x512 : Shape := ⟨3, ![32, 512, 512]⟩
abbrev S32 : Shape := ⟨1, ![32]⟩
abbrev S_ : Shape := ⟨0, ![]⟩
abbrev S32x1 : Shape := ⟨2, ![32, 1]⟩

abbrev nBuf : Space → Nat
  | .hbm => 14
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32, .i32⟩
  | .hbm, ⟨2, _⟩ => ⟨S32, .i32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S32x512x512, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel.lean ====
abbrev S1x512x512 : Shape := ⟨3, ![1, 512, 512]⟩
abbrev S32 : Shape := ⟨1, ![32]⟩
abbrev S_ : Shape := ⟨0, ![]⟩
abbrev S1 : Shape := ⟨1, ![1]⟩

abbrev nBuf : Space → Nat
  | .hbm => 3
  | .vmem => 0
  | .smem => 1
  | _ => 0

abbrev bufTy : (tb : Table) → Fin (tcTables nBuf tb) → BufTy
  | .hbm, ⟨0, _⟩ => ⟨S1x512x512, .f32⟩
  | .hbm, ⟨1, _⟩ => ⟨S32, .i32⟩
  | .hbm, ⟨2, _⟩ => ⟨S1x512x512, .f32⟩
  | .local _ .smem, ⟨0, _⟩ => ⟨S32, .i32⟩
  | _, _ => ⟨S1x512x512, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 3 → Bool
  | ⟨0, _⟩ => true
  | ⟨1, _⟩ => true
  | ⟨2, _⟩ => true
  | _ => false

abbrev sig : RefSig :=
  (ofTc nBuf bufTy 1 3 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
@[reducible] def k0_t1_loop : Scf.Loop 32 :=
  let c0_i32_0 : BitVec 32 := 0#32
  let c32_i32_1 : BitVec 32 := 32#32
  let v5 : BitVec 32 := Scalar.addi c0_i32_0 c32_i32_1
  let c1_i32_2 : BitVec 32 := 1#32
  ⟨c0_i32_0, v5, c1_i32_2⟩
def k0_off2 (k0_t1 : Fin k0_t1_loop.trips) : Fin 1 → Nat :=
  let c0_i32_0 : BitVec 32 := 0#32
  let c1_i32_2 : BitVec 32 := 1#32
  let arg5 : BitVec 32 := Scf.iv c0_i32_0 c1_i32_2 k0_t1
  let v14 : Index := Scalar.indexCast arg5
  ![v14.toNat]
def k0_dev1 (v6 : BitVec 32) : Nat :=
  let c0_i32_6 : BitVec 32 := 0#32
  let c1_i32_5 : BitVec 32 := 1#32
  let v8 : BitVec 32 := Scalar.muli v6 c1_i32_5
  let v9 : BitVec 32 := Scalar.addi c0_i32_6 v8
  v9.toNat

def k0_chk1 (v6 : BitVec 32) : Prop :=
  ((k0_dev1 v6) < nD)
theorem k0_dev1_lt : ∀ (v6 : BitVec 32) (k0_hw1 : k0_chk1 v6), (k0_dev1 v6) < nD := fun v6 k0_hw1 => k0_hw1

def k0_dev2 (v4 : BitVec 32) : Nat :=
  let c0_i32_9 : BitVec 32 := 0#32
  let c1_i32_8 : BitVec 32 := 1#32
  let v10 : BitVec 32 := Scalar.muli v4 c1_i32_8
  let v11 : BitVec 32 := Scalar.addi c0_i32_9 v10
  v11.toNat

def k0_chk2 (v4 : BitVec 32) : Prop :=
  ((k0_dev2 v4) < nD)
theorem k0_dev2_lt : ∀ (v4 : BitVec 32) (k0_hw2 : k0_chk2 v4), (k0_dev2 v4) < nD := fun v4 k0_hw2 => k0_hw2

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Proof.Table.lean ====
/-
# The table: what the body computes from it

The body reads two things off the table `pi` of 32 words: its own word `pi[c]`, the device it sends to, and, by a
loop over the whole table, the last index `j` with `pi[j] = c`, the device it receives from. Here the table is that
of a permutation `σ` of the devices; the first is then `σ c` and the second `σ⁻¹ c`.
-/
module

public import proofs.«01_k».proof.Proof.Gen.KernelIdeal
public import proofs.«01_k».proof.Proof.Gen.KernelIdeal.Skeleton
public import Idealize.ShloMosaic.Lib.Tactic
public import Idealize.ShloMosaic.Lib.WordCmp

@[expose] public section

noncomputable section

namespace Cert.Shards

open Cert.KernelIdeal Cert.KernelIdeal.Gen
open Idealize.ShloMosaic Idealize.ShloMosaic.TcCoe Idealize.ShloMosaic.WordCmp

/-- A permutation of the devices. -/
abbrev Perm : Type := Dev nD ≃ Dev nD

/-- Its table: word `j` is the number of the device `σ j`. -/
def table (σ : Perm) : IVec S32 32 := fun i => BitVec.ofNat 32 (σ (i 0)).val

/-- A device's number as the body computes it from its device id. -/
abbrev self (c : Dev nD) : BitVec 32 := Scalar.remsi (Scalar.divsi (Dev.word c) 1#32) 32#32

theorem self_eq (c : Dev nD) : self c = BitVec.ofNat 32 c.val := by revert c; decide +kernel

theorem ofNat_inj {a b : Dev nD} (h : BitVec.ofNat 32 a.val = BitVec.ofNat 32 b.val) : a = b := by
  have ha : a.val < 32 := a.isLt
  have hb : b.val < 32 := b.isLt
  have := congrArg BitVec.toNat h
  rw [BitVec.toNat_ofNat, BitVec.toNat_ofNat, Nat.mod_eq_of_lt (by omega), Nat.mod_eq_of_lt (by omega)] at this
  exact Fin.ext this

/-! ## One word of the table -/

/-- The word a load of one element at offset `o` reads from contents `X` of the staged table. -/
abbrev wordAt {F : FTy → Type} (o : Fin 1 → Nat) (ho : ∀ a, o a + S1.size a ≤ S32.size a) (X : (cc0_stg0_0 : Ref sig .tc).ty.Contents (Elt F)) : BitVec 32 :=
  ((Memref.whole cc0_stg0_0).access (Rect.unit (s := S32) o S1.size ho) : View sig .tc _ _ _).read (Elt F) X
    (Shape.Idx.first (s := S1) (numel1_S1.symm ▸ Nat.one_pos))

theorem wordAt_table {F : FTy → Type} (σ : Perm) (d : Dev nD) (o : Fin 1 → Nat) (ho) (h : o = ![d.val]) :
    wordAt (F := F) o ho (table σ) = BitVec.ofNat 32 (σ d).val := by
  subst h
  show BitVec.ofNat 32 (σ ⟨d.val + 1 * 0, _⟩).val = _
  rfl

/-- The word at the device's own offset is the number of the device it sends to. -/
theorem own_word {F : FTy → Type} (σ : Perm) (c : Dev nD) : wordAt (F := F) (k0_off1 c) (k0_off1_inb c) (table σ) = BitVec.ofNat 32 (σ c).val :=
  wordAt_table σ c _ _ (k0_off1_eq c)

theorem trips_eq : k0_t1_loop.trips = 32 := by decide +kernel

theorem iv_eq (k : Fin k0_t1_loop.trips) : Scf.iv 0#32 1#32 k.val = BitVec.ofNat 32 k.val := by
  revert k; decide +kernel

/-! ## The search -/

/-- What the search holds before trip `k`: the device to receive from once its index has gone by, else the initial zero. -/
def found (σ : Perm) (c : Dev nD) (k : Nat) : BitVec 32 :=
  if (σ.symm c).val < k then BitVec.ofNat 32 (σ.symm c).val else 0#32

theorem found_zero (σ : Perm) (c : Dev nD) : found σ c 0 = 0#32 := if_neg (Nat.not_lt_zero _)

theorem found_all (σ : Perm) (c : Dev nD) : found σ c k0_t1_loop.trips = BitVec.ofNat 32 (σ.symm c).val :=
  if_pos (by rw [trips_eq]; exact (σ.symm c).isLt)

/-- One trip: the index replaces what is held exactly when its word is the device's own number. -/
theorem found_step {F : FTy → Type} (σ : Perm) (c : Dev nD) (k : Fin k0_t1_loop.trips) :
    Scalar.select (Scalar.cmpi .eq (wordAt (F := F) (k0_off2 k) (k0_off2_inb k) (table σ)) (self c)) (Scf.iv 0#32 1#32 k.val) (found σ c k.val)
      = found σ c (k.val + 1) := by
  have hk : k.val < 32 := Nat.lt_of_lt_of_le k.isLt (Nat.le_of_eq trips_eq)
  rw [wordAt_table σ ⟨k.val, hk⟩ _ _ (k0_off2_eq k), self_eq, iv_eq, scalar_cmpi_eq, cmpi_eq_eq, select_ofBool]
  unfold found
  by_cases h : σ ⟨k.val, hk⟩ = c
  · have hs : (σ.symm c).val = k.val := by rw [← h, Equiv.symm_apply_apply]
    rw [if_pos (by rw [h]; exact decide_eq_true rfl), if_pos (by omega), hs]
  · have hs : (σ.symm c).val ≠ k.val := fun e => h (by rw [← σ.apply_symm_apply c]; exact congrArg σ (Fin.ext e.symm))
    rw [if_neg (by simp only [decide_eq_true_eq]; exact fun e => h (ofNat_inj e))]
    by_cases hl : (σ.symm c).val < k.val
    · rw [if_pos hl, if_pos (by omega)]
    · rw [if_neg hl, if_neg (by omega)]

/-! ## The devices the two words name -/

theorem dev1_ofNat (d : Dev nD) : k0_dev1 (BitVec.ofNat 32 d.val) = d.val := by revert d; decide +kernel
theorem dev2_ofNat (d : Dev nD) : k0_dev2 (BitVec.ofNat 32 d.val) = d.val := by revert d; decide +kernel

theorem chk1_ofNat {w : BitVec 32} {d : Dev nD} (h : w = BitVec.ofNat 32 d.val) : k0_chk1 w := by
  subst h; unfold k0_chk1; rw [dev1_ofNat]; exact d.isLt
theorem chk2_ofNat {w : BitVec 32} {d : Dev nD} (h : w = BitVec.ofNat 32 d.val) : k0_chk2 w := by
  subst h; unfold k0_chk2; rw [dev2_ofNat]; exact d.isLt

theorem dev1_is {w : BitVec 32} {d : Dev nD} (h : w = BitVec.ofNat 32 d.val) (hw : k0_chk1 w) : (⟨k0_dev1 w, k0_dev1_lt w hw⟩ : Dev nD) = d := by
  subst h; exact Fin.ext (dev1_ofNat d)
theorem dev2_is {w : BitVec 32} {d : Dev nD} (h : w = BitVec.ofNat 32 d.val) (hw : k0_chk2 w) : (⟨k0_dev2 w, k0_dev2_lt w hw⟩ : Dev nD) = d := by
  subst h; exact Fin.ext (dev2_ofNat d)

end Cert.Shards

end
-- ==== Proof.Protocol.lean ====
/-
# The handshake and the transfer, as duties

Device `c` sends its block to `σ c` and receives the block of `σ⁻¹ c`. Three counters of each device are
shared, and each is raised once and waited on once:

* the barrier counter of `c`, raised by one by the device `σ c`, which by that gives `c` its result buffer to write to;
* the send counter of `c`, raised by the transfer of `c` when its block has been read: `c` gets its block back;
* the receive counter of `c`, raised by the transfer of `σ⁻¹ c`: `c` gets its result buffer, which then holds the block of `σ⁻¹ c`.

So a counter has one duty, named `()`, in round 0, and no round after it.
-/
module

public import proofs.«01_k».proof.Proof.Table
public import proofs.«01_k».proof.Proof.Gen.KernelIdeal.Launch
public import Idealize.ShloMosaic.Lib.Pipeline.Launch
public import Idealize.ShloMosaic.Lib.Pipeline.Kit

@[expose] public section

noncomputable section

namespace Cert.Shards

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The staging's own resources beside those of the three shared counters. -/
abbrev UU : Type := UR sig nD τ × URounds (GSem nD τ sig) Unit

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := embR

variable (σ : Perm) (m : (ℓ : Loc nD τ sig) → Buf (Elt F) ℓ)

/-! ## Buffers and counters -/

abbrev tM : Memref sig .tc .smem S32 .i32 := Memref.whole cc0_stg0_0
abbrev xM : Memref sig .tc .hbm S1x512x512 .f32 := Memref.whole main_arg0
abbrev oM : Memref sig .tc .hbm S1x512x512 .f32 := Memref.whole main_v1

abbrev barS : Sem sig := (SemArray.scalar (sig.barrier 0 rfl) : Sems sig S_).sem
abbrev sendS : DmaSem sig := (cc0_scratch0 : DmaSems sig S_).sem
abbrev recvS : DmaSem sig := (cc0_scratch1 : DmaSems sig S_).sem

/-- The three shared counters of a device, and those two of them that belong to the kernel alone. -/
abbrev csem : Fin 3 → SemLoc sig := fun | 0 => .reg barS | 1 => .dma sendS | 2 => .dma recvS
abbrev osem : Fin 2 → SemLoc sig := fun | 0 => .dma sendS | 1 => .dma recvS

abbrev cell (ck : Dev nD × Fin 3) : GSem nD τ sig := ((ck.1 : Thread nD τ), csem ck.2)
abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)

theorem csem_inj : Function.Injective csem := by decide

/-- What the transfer of one block raises a counter by. -/
abbrev N : ℕ := (oM : Memref sig .tc .hbm S1x512x512 .f32).view.dmaCredit
theorem N_pos : 0 < N := View.dmaCredit_pos _ (by decide)

/-- Device `c`'s block, as launched. -/
abbrev blockOf (c : Dev nD) : S1x512x512.Idx → Elt F .f32 := m ((c : Thread nD τ).loc main_arg0)

/-- Device `c` holds its block, whole; -/
def xPts (c : Dev nD) : sProp 𝕄 := xM.view.loc (c : Thread nD τ) ↦[xM.view.set]{fullShare} blockOf m c
/-- its result buffer, whole, at contents `f`. -/
def oPts (c : Dev nD) (f : S1x512x512.Idx → Elt F .f32) : sProp 𝕄 := oM.view.loc (c : Thread nD τ) ↦[oM.view.set]{fullShare} f

omit [FloatOps F] in
instance xPts_storable (c : Dev nD) : BI.Storable (upEmb : UEmb _ 𝕄) (xPts (F := F) m c) := by unfold xPts; infer_instance
omit [FloatOps F] in
instance oPts_storable (c : Dev nD) (f) : BI.Storable (upEmb : UEmb _ 𝕄) (oPts (F := F) c f) := by unfold oPts; infer_instance

omit [FloatOps F] in
theorem xPts_eq (c : Dev nD) : (xPts m c : sProp 𝕄) = (((c : Thread nD τ).loc main_arg0) ↦{fullShare} blockOf m c) := by
  unfold xPts; rw [View.set_whole]
omit [FloatOps F] in
theorem oPts_eq (c : Dev nD) (f) : (oPts c f : sProp 𝕄) = (((c : Thread nD τ).loc main_v1) ↦{fullShare} f) := by
  unfold oPts; rw [View.set_whole]

omit [FloatOps F] in
/-- A block written whole over a result buffer leaves the block. -/
theorem landed_eq (fd fs : S1x512x512.Idx → Elt F .f32) : oM.view.write (Elt F) fd (xM.view.read (Elt F) fs) Finset.univ = fs := by
  show (View.whole main_v1).write (Elt F) fd ((View.whole main_arg0).read (Elt F) fs) Finset.univ = fs
  rw [View.read_whole]
  exact View.write_whole_univ _ _ _

/-! ## The schedule -/

/-- Which of the three a semaphore is. -/
def role (s : SemLoc sig) : Option (Fin 3) :=
  if s = csem 0 then some 0 else if s = csem 1 then some 1 else if s = csem 2 then some 2 else none

theorem role_csem (k : Fin 3) : role (csem k) = some k := by revert k; decide

/-- What the single duty of each counter raises it by, and what it hands over. -/
def units (k : Fin 3) : ℕ := if k = 0 then 1 else N
def hand (c : Dev nD) (k : Fin 3) : sProp 𝕄 :=
  match k with
  | 0 => iprop(∃ f, oPts (σ c) f)
  | 1 => xPts m c
  | 2 => oPts c (blockOf m (σ.symm c))

theorem units_pos (k : Fin 3) : 0 < units k := by
  unfold units; split
  · exact Nat.one_pos
  · exact N_pos

omit [FloatOps F] in
instance hand_storable (c : Dev nD) (k : Fin 3) : BI.Storable (upEmb : UEmb _ 𝕄) (hand (F := F) σ m c k) := by
  unfold hand; split <;> infer_instance

def plan : Rounds.Schedule (GSem nD τ sig) Unit 𝕄 where
  duties g r := if r = 0 ∧ g.1.2 = .tc ∧ (role g.2).isSome = true then {()} else ∅
  unitless _ := False
  amount g _ _ := ((role g.2).map units).getD 1
  payload g _ _ := ((role g.2).map (hand σ m g.1.1)).getD iprop(emp)
  amount_pos g _ _ _ := by
    cases role g.2 with
    | none => exact Nat.one_pos
    | some k => exact units_pos k

omit [FloatOps F] in
instance plan_payload_storable (g : GSem nD τ sig) (r : ℕ) (d : Unit) :
    BI.Storable (upEmb : UEmb _ 𝕄) ((plan (F := F) σ m).payload g r d) := by
  show BI.Storable upEmb (((role g.2).map (hand σ m g.1.1)).getD iprop(emp))
  cases role g.2 with
  | none => exact (inferInstance : BI.Storable (upEmb : UEmb _ 𝕄) iprop(emp))
  | some k => exact hand_storable σ m g.1.1 k

section Sched
omit [FloatOps F]
variable (c : Dev nD) (k : Fin 3)

theorem duties_cell : (plan (F := F) σ m).duties (cell (c, k)) 0 = {()} := by
  dsimp only [plan]; rw [role_csem]; exact if_pos ⟨rfl, rfl, rfl⟩
theorem mem_duties : () ∈ (plan (F := F) σ m).duties (cell (c, k)) 0 := by rw [duties_cell]; exact Finset.mem_singleton_self _
theorem duties_later (g : GSem nD τ sig) : ∀ r, 1 ≤ r → (plan (F := F) σ m).duties g r = ∅ :=
  fun r hr => by dsimp only [plan]; exact if_neg fun h => by omega
theorem amount_cell (d : Unit) : (plan (F := F) σ m).amount (cell (c, k)) 0 d = units k := by
  dsimp only [plan]; rw [role_csem]; rfl
theorem expect_cell : (plan (F := F) σ m).expect (cell (c, k)) 0 = units k := by
  unfold Schedule.expect Schedule.amountOf; rw [duties_cell, Finset.sum_singleton, amount_cell]
theorem payload_cell (d : Unit) : (plan (F := F) σ m).payload (cell (c, k)) 0 d = hand σ m c k := by
  dsimp only [plan]; rw [role_csem]; rfl
/-- The rest of a counter's round, when nothing of it has been taken. -/
theorem rest_cell :
    bigSep ((plan (F := F) σ m).duties (cell (c, k)) 0 \ ∅) (fun d => (plan (F := F) σ m).payload (cell (c, k)) 0 d) = hand σ m c k := by
  rw [Finset.sdiff_empty, duties_cell, bigSep_singleton, payload_cell]

end Sched

/-! ## What a device owes, and the order of the waits -/

/-- Once it has signalled, device `c` still owes the block to the receive counter of `σ c`; -/
def afterSignal (c : Dev nD) : CellTallies nD τ sig Unit := tallyAt (recvCell (σ c)) () N
/-- at launch also one unit to the barrier counter of `σ⁻¹ c`. -/
def atLaunch (c : Dev nD) : CellTallies nD τ sig Unit := afterSignal σ c + tallyAt (barCell (σ.symm c)) () 1

def L (g : GSem nD τ sig) : Finset Unit := if g.1.2 = .tc then {()} else ∅
/-- Receive counters above barrier counters, barrier counters above all others. -/
def lv (g : GSem nD τ sig) (_ : Unit) : ℕ := if role g.2 = some 0 then 1 else if role g.2 = some 2 then 2 else 0

theorem lv_bar (c : Dev nD) (u : Unit) : lv (barCell c) u = 1 := by
  unfold lv; rw [show role (barCell c).2 = some 0 from role_csem 0]; rfl
theorem lv_recv (c : Dev nD) (u : Unit) : lv (recvCell c) u = 2 := by
  unfold lv; rw [show role (recvCell c).2 = some 2 from role_csem 2]; rfl

theorem L_of_ne (g : GSem nD τ sig) (h : g.1.2 ≠ .tc) : L g = ∅ := if_neg h
theorem L_tc (c : Dev nD) (s : SemLoc sig) (u : Unit) : u ∈ L ((c : Thread nD τ), s) := by
  rw [show L ((c : Thread nD τ), s) = {()} from if_pos rfl]; exact Finset.mem_singleton_self _

theorem afterSignal_pos {c : Dev nD} {g : GSem nD τ sig} {u : Unit} (h : 0 < afterSignal σ c g u) : g = recvCell (σ c) := by
  unfold afterSignal at h
  rw [tallyAt_apply] at h
  by_contra hn
  rw [if_neg fun e => hn e.1] at h
  exact Nat.lt_irrefl 0 h

theorem atLaunch_pos {c : Dev nD} {g : GSem nD τ sig} {u : Unit} (h : 0 < atLaunch σ c g u) :
    g = recvCell (σ c) ∨ g = barCell (σ.symm c) := by
  unfold atLaunch at h
  rw [Pi.add_apply, Finsupp.add_apply] at h
  by_cases h1 : 0 < afterSignal σ c g u
  · exact Or.inl (afterSignal_pos σ h1)
  · rw [Nat.eq_zero_of_not_pos h1, Nat.zero_add, tallyAt_apply] at h
    refine Or.inr ?_
    by_contra hn
    rw [if_neg fun e => hn e.1] at h
    exact Nat.lt_irrefl 0 h

omit [FloatOps F] in
/-- A device may wait on a staging counter whatever it owes of the two; -/
theorem wait_staging (c : Dev nD) (q : DmaSem sig) (hq : role (.dma q) = none) (O : CellTallies nD τ sig Unit)
    (hO : O = atLaunch σ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp]; exact L_tc _ _ _)
      (fun g u hg => by rcases atLaunch_pos σ hg with rfl | rfl <;> exact L_tc _ _ _)
      (fun p hp => by rw [Finset.mem_singleton.mp hp]; dsimp only [lv]; rw [hq]; decide)
      (fun g u hg => by rcases atLaunch_pos σ hg with rfl | rfl <;> first | (rw [lv_recv]; decide) | (rw [lv_bar]; decide))
  · rw [MayWait_zero]; iintro -; iempintro

omit [FloatOps F] in
/-- and on its barrier counter, owing the block to a receive counter. -/
theorem wait_barrier (c : Dev nD) : (levAts L lv : sProp 𝕄) ⊢ MayWait (c : Thread nD τ) (.reg barS) () (afterSignal σ c) :=
  MayOwe.of_cut (L := L) (lev := lv) 1 (fun p hp => by rw [Finset.mem_singleton.mp hp]; exact L_tc _ _ _)
    (fun g u hg => by rw [afterSignal_pos σ hg]; exact L_tc _ _ _)
    (fun p hp => by rw [Finset.mem_singleton.mp hp]; exact Nat.le_of_eq (lv_bar c ()))
    (fun g u hg => by rw [afterSignal_pos σ hg, lv_recv]; decide)

end Cert.Shards

end
-- ==== Proof.Body.lean ====
/-
# The body on one device

Device `c` reads its table, signals the device it receives from, waits for the signal of the device it sends to,
sends its block there, and waits until its own block has left and the block of `σ⁻¹ c` has arrived.
-/
module

public import proofs.«01_k».proof.Proof.Protocol
public import proofs.«01_k».proof.Proof.Gen.KernelIdeal.Points
public import Idealize.ShloMosaic.Lib.Tactic

@[expose] public section

noncomputable section

namespace Cert.Shards

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Perm) (m : (ℓ : Loc nD τ sig) → Buf (Elt F) ℓ)

/-- Every device holds the table of `σ`. -/
def Holds : Prop := ∀ c : Dev nD, m ((c : Thread nD τ).loc main_arg1) = table σ

/-! ## What a device holds before and after -/

/-- The invariants of the counters device `c` touches: its own three, the barrier counter it signals and the
    receive counter it sends to, allocated under the names `K`. -/
def invs (K : Dev nD × Fin 3 → ℕ) (c : Dev nD) : sProp 𝕄 :=
  iprop(cellInv ER (plan σ m) (K (c, 0)) (barCell c) ∗ cellInv ER (plan σ m) (K (c, 1)) (sendCell c) ∗ cellInv ER (plan σ m) (K (c, 2)) (recvCell c)
    ∗ cellInv ER (plan σ m) (K (σ.symm c, 0)) (barCell (σ.symm c)) ∗ cellInv ER (plan σ m) (K (σ c, 2)) (recvCell (σ c)))

omit [FloatOps F] in
instance invs_persistent (K : Dev nD × Fin 3 → ℕ) (c : Dev nD) : BI.Persistent (invs (F := F) σ m K c) := by unfold invs; infer_instance

/-- Its place at the three counters it waits on, and the three duties it pays. -/
def ghost (K : Dev nD × Fin 3 → ℕ) (c : Dev nD) : sProp 𝕄 :=
  iprop(invs σ m K c
    ∗ (atPos ER (barCell c) 0 ∅ 0 ∗ atPos ER (sendCell c) 0 ∅ 0 ∗ atPos ER (recvCell c) 0 ∅ 0)
    ∗ (reached ER (barCell (σ.symm c)) 0 ∗ reached ER (sendCell c) 0 ∗ reached ER (recvCell (σ c)) 0)
    ∗ (dutyTok ER (barCell (σ.symm c)) 0 () ∗ dutyTok ER (sendCell c) 0 () ∗ dutyTok ER (recvCell (σ c)) 0 ()))

/-- The credits of its waits that others pay, and the order of the waits. -/
def credits (c : Dev nD) : sProp 𝕄 :=
  iprop(cred (tallyAt (barCell c) () 1) ∗ cred (tallyAt (recvCell c) () N) ∗ levAts L lv)

def before (c : Dev nD) : sProp 𝕄 :=
  iprop((∃ K, ghost σ m K c) ∗ credits c ∗ xPts m c ∗ ∃ f, oPts c f)

def after (c : Dev nD) : sProp 𝕄 :=
  iprop((semVal (sendCell c) 0 ∗ semVal (recvCell c) 0) ∗ semVal (barCell c) 0 ∗ xPts m c ∗ oPts c (blockOf m (σ.symm c)))

/-- The table as the pipeline stages it. -/
def staged (c : Dev nD) : (cc0_stg0_0 : Ref sig .tc).ty.Contents (Elt F) :=
  (win0_0.blk (0 : Fin 1)).view.read (Elt F) (m ((c : Thread nD τ).loc main_arg1))

def dats (_ : Fin 1) (c : Dev nD) : Dat τ (Elt F) Unit ℕ UU ℕ cfg0 c where
  A w := m ((cfg0.win w).arr.view.loc (c : Thread nD τ))
  after w _ := match w with
    | ⟨0, _⟩ => staged m c
  Φ t := match t with
    | ⟨0, _⟩ => before σ m c
    | ⟨_ + 1, _⟩ => after σ m c
  q _ := fullShare
  owed t := match t with
    | ⟨0, _⟩ => atLaunch σ c
    | ⟨_ + 1, _⟩ => 0

abbrev 𝒱₀ : Variants := Variants.none

variable {σ m} in
omit [FloatOps F] in
theorem Holds.staged (h : Holds σ m) (c : Dev nD) : staged m c = table σ := by
  unfold Shards.staged
  rw [h c]
  refine funext fun i => ?_
  show table σ _ = table σ i
  refine congrArg (table σ) (funext fun a => Fin.ext ?_)
  fin_cases a
  show 0 * 32 + 1 * (i 0).val = (i 0).val
  omega

theorem bigSep_W (Φ : Fin cfg0.W → sProp 𝕄) : bigSep Finset.univ Φ = iprop(Φ (0 : Fin 1)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The search -/

/-- The staged table in scalar memory. -/
abbrev tPts (c : Dev nD) (X : (cc0_stg0_0 : Ref sig .tc).ty.Contents (Elt F)) : sProp 𝕄 := ((c : Thread nD τ).loc cc0_stg0_0) ↦{fullShare} X

/-- The loop over the table ends with the device to receive from. -/
theorem wp_search (c : Dev nD) {α : Type} {kk : BitVec 32 → Prog (TpuEff nD τ sig (Elt F) Λ₀ .tc) α} {Q : α → sProp 𝕄} :
    tPts c (table σ)
      ⊢ iprop((tPts c (table σ) -∗ wp frame (wpE (defs₀ (F := F)) 𝒱₀ (c : Thread nD τ) none) Set.univ (kk (BitVec.ofNat 32 (σ.symm c).val)) Q)
        -∗ wp frame (wpE (defs₀ (F := F)) 𝒱₀ (c : Thread nD τ) none) Set.univ
            (Scf.Loop.for k0_t1_loop k0_t1_ok 0#32 (k0_t1_body (Memref.whole cc0_stg0_0) (Memref.isWhole_whole _) xM (Memref.isWhole_whole _) oM (Memref.isWhole_whole _)
              cc0_scratch0 cc0_scratch1 (self c)) >>= kk) Q) := by
  iintro Ht Hk
  iapply (Scf.wp_for_bind frame (wpE (defs₀ (F := F)) 𝒱₀ (c : Thread nD τ) none) Set.univ k0_t1_loop.lb k0_t1_loop.ub k0_t1_loop.st k0_t1_ok 0#32
    (k0_t1_body (Memref.whole cc0_stg0_0) (Memref.isWhole_whole _) xM (Memref.isWhole_whole _) oM (Memref.isWhole_whole _) cc0_scratch0 cc0_scratch1 (self c))
    (fun k acc => iprop(⌜acc = found σ c k⌝ ∗ tPts c (table σ))) ?_) $$ [Ht]
  · intro k acc
    iintro ⟨%h, Ht⟩
    subst h
    unfold k0_t1_body
    simp only [smemLoad, smemLoadElt, Prog.lift, Prog.bind_op, Prog.bind_ret, Prog.pure_eq_ret, Prog.bind_assoc]
    iapply (wp_load_rect 𝒱₀ (c : Thread nD τ) none Set.univ (m := tM)
      (r := Rect.unit (s := S32) (k0_off2 k) S1.size (k0_off2_inb k)) (Finset.subset_univ _)) $$ Ht; iintro Ht
    rw [wp_ret]; imodintro
    isplitr
    · ipureintro; exact found_step σ c k
    iexact Ht
  · isplitr
    · ipureintro; exact (found_zero σ c).symm
    iexact Ht
  iintro %acc ⟨%h, Ht⟩
  have h' : acc = BitVec.ofNat 32 (σ.symm c).val := h.trans (found_all σ c)
  subst h'
  iapply Hk; iexact Ht

/-! ## The transfer -/

/-- The transfer to `n = σ c`: its block and the result buffer there, for the credit of its own wait. -/
theorem wp_transfer (K : Dev nD × Fin 3 → ℕ) (c n : Dev nD) (hn : n = σ c) {hsc : (oM : Memref sig (Dev.tc n : Thread nD τ).2.kind .hbm S1x512x512 .f32).view.ref.isScScratch = false}
    {hsrc : (xM : Memref sig .tc .hbm S1x512x512 .f32).view.WordExact} {hdst : (oM : Memref sig .tc .hbm S1x512x512 .f32).view.WordExact}
    {hsem : DmaTarget.Typed .hbm (.dma recvS) (.remote (Dev.tc n : Thread nD τ) (oM : Memref sig .tc .hbm S1x512x512 .f32) (.dma sendS) hsc)}
    {α : Type} {Q : α → sProp 𝕄} {k : PUnit → Prog (TpuEff nD τ sig (Elt F) Λ₀ .tc) α}
    (f : S1x512x512.Idx → Elt F .f32) (W : Waits sig Unit) :
    iprop(cellInv ER (plan σ m) (K (c, 1)) (sendCell c) ∗ cellInv ER (plan σ m) (K (σ c, 2)) (recvCell (σ c))
        ∗ xPts m c ∗ oPts (σ c) f ∗ owes (c : Thread nD τ) (afterSignal σ c) W
        ∗ dutyTok ER (sendCell c) 0 () ∗ reached ER (sendCell c) 0
        ∗ dutyTok ER (recvCell (σ c)) 0 () ∗ reached ER (recvCell (σ c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) oM (.dma sendS) hsc) (.dma recvS) hsrc hdst hsem) k) Q) := by
  subst hn
  unfold xPts oPts
  exact Rounds.wp_send_pointsTo 𝒱₀ ER (plan σ m) (c : Thread nD τ) none (κ₁ := K (c, 1)) (κ₂ := K (σ c, 2))
    (r₁ := 0) (r₂ := 0) (d₁ := ()) (d₂ := ()) (fd := f) (mem_duties σ m c 1) (mem_duties σ m (σ c) 2)
    () () N rfl (amount_cell σ m c 1 ()) (amount_cell σ m (σ c) 2 ()) 0 (by rw [zero_add]; rfl) (W := W)
    (by rw [show (plan σ m).payload ((c : Thread nD τ), SemLoc.dma sendS) 0 () = hand σ m c 1 from payload_cell σ m c 1 ()]; exact BI.Entails.refl _)
    (by
      rw [show (plan σ m).payload ((σ c : Thread nD τ), SemLoc.dma recvS) 0 () = hand σ m (σ c) 2 from payload_cell σ m (σ c) 2 ()]
      unfold hand oPts
      rw [landed_eq, Equiv.symm_apply_apply])

/-- The signal to `n = σ⁻¹ c` gives that device the result buffer of `c`. -/
theorem wp_give (K : Dev nD × Fin 3 → ℕ) (c n : Dev nD) (hn : n = σ.symm c)
    {α : Type} {Q : α → sProp 𝕄} {k : PUnit → Prog (TpuEff nD τ sig (Elt F) Λ₀ .tc) α} (W : Waits sig Unit) :
    iprop(cellInv ER (plan σ m) (K (σ.symm c, 0)) (barCell (σ.symm c)) ∗ owes (c : Thread nD τ) (atLaunch σ c) W
        ∗ dutyTok ER (barCell (σ.symm c)) 0 () ∗ (∃ f, oPts c f) ∗ reached ER (barCell (σ.symm c)) 0)
      ⊢ iprop((owes (c : Thread nD τ) (afterSignal σ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32 : BitVec 32).toInt) k) Q) := by
  subst hn
  rw [show (1#32 : BitVec 32).toInt = ((1 : ℕ) : ℤ) from rfl]
  iintro ⟨#HI, HO, Ht, Ho, #Hr⟩ Hk
  iapply (Rounds.wp_signal 𝒱₀ ER (plan σ m) (c : Thread nD τ) none (dst := (σ.symm c : Thread nD τ)) (κ := K (σ.symm c, 0))
      (d := ()) (mem_duties σ m (σ.symm c) 0) (amount_cell σ m (σ.symm c) 0 ()) () (afterSignal σ c) rfl) $$ [HO Ht Ho]
  · isplitr; · iexact HI
    isplitl [HO]; · iexact HO
    isplitl [Ht]; · iexact Ht
    isplitl [Ho]
    · rw [show (plan σ m).payload ((σ.symm c : Thread nD τ), SemLoc.reg barS) 0 () = hand σ m (σ.symm c) 0 from payload_cell σ m (σ.symm c) 0 ()]
      unfold hand
      rw [Equiv.apply_symm_apply]
      iexact Ho
    iexact Hr
  iexact Hk

/-! ## The whole body -/

variable (K : Dev nD × Fin 3 → ℕ)

/-- The staging buffer `b` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, the invariants' names chosen. -/
def bodyPre (c : Dev nD) : sProp 𝕄 :=
  iprop((ghost σ m K c ∗ credits c ∗ xPts m c ∗ ∃ f, oPts c f) ∗ (dats σ m 0 c).owesAt () t0_0.castSucc
    ∗ (∃ d, stg c cc0_stg0_0 ((dats σ m 0 c).before (0 : Fin 1) t0_0 d)))

def bodyPost (c : Dev nD) : sProp 𝕄 :=
  iprop(after σ m c ∗ (dats σ m 0 c).owesAt () t0_0.succ ∗ stg c cc0_stg0_0 (staged m c))

set_option maxHeartbeats 1600000 in
/-- The body from `bodyPre` to `bodyPost`, one rule for each operation in order. -/
theorem sound_body (hT : Holds σ m) (c : Dev nD) (Kt : PUnit → sProp 𝕄) :
    iprop(bodyPre σ m K c ∗ (bodyPost σ m c -∗ Kt ⟨⟩))
      ⊢ wp frame (wpE (defs₀ (F := F)) 𝒱₀ c none) Set.univ
          (cc0_body (Memref.whole cc0_stg0_0) (Memref.isWhole_whole _) (Memref.whole main_arg0) (Memref.isWhole_whole _)
            (Memref.whole main_v1) (Memref.isWhole_whole _) cc0_scratch0 cc0_scratch1) Kt := by
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  unfold bodyPre ghost invs credits
  iintro ⟨⟨⟨⟨⟨#HIbar, #HIsnd, #HIrcv, #HIbarP, #HIrcvN⟩, ⟨HatB, HatS, HatV⟩, ⟨#HrB, #HrS, #HrV⟩, HtB, HtS, HtV⟩, ⟨HcB, HcV, #Hlev⟩, Hx, Hout⟩,
    Ho, %d0, %g0, %hg0, Ht⟩, Hk⟩
  have ht : g0 = table σ := by rw [hg0, ← hT.staged c]; unfold Dat.before; rw [if_pos (fetch0_0 t0_0)]; rfl
  subst ht
  unfold Dat.owesAt Pipeline.owesWithin
  icases Ho with ⟨%W, %hW, HO⟩
  rw [show (dats σ m 0 c).owed t0_0.castSucc = atLaunch σ c from rfl]
  -- the device to send to
  iapply (wp_load_rect 𝒱₀ (c : Thread nD τ) none Set.univ (m := tM)
      (r := Rect.unit (s := S32) (k0_off1 c) S1.size (k0_off1_inb c)) (Finset.subset_univ _)) $$ Ht; iintro Ht
  simp only [wp_assume_of _ _ _ _ (d := k0_chk2.dec _) (chk2_ofNat (own_word (F := F) σ c))]
  -- the device to receive from
  iapply (wp_search σ c) $$ Ht; iintro Ht
  simp only [wp_assume_of _ _ _ _ (d := k0_chk1.dec _) (chk1_ofNat (d := σ.symm c) rfl)]
  -- the signal, the result buffer with it
  iapply (wp_give σ m K c _ (dev1_is (d := σ.symm c) rfl (chk1_ofNat (d := σ.symm c) rfl)) W) $$ [HO HtB Hout]
  · isplitr; · iexact HIbarP
    isplitl [HO]; · iexact HO
    isplitl [HtB]; · iexact HtB
    isplitl [Hout]; · iexact Hout
    iexact HrB
  iintro HO
  -- the wait for the signal of the device it sends to
  rw [show (1#32 : BitVec 32).toInt = ((1 : ℕ) : ℤ) from rfl]
  iapply (Rounds.wp_wait_rest_token 𝒱₀ ER (plan σ m) (c : Thread nD τ) none (κ := K (c, 0))
      (wpE_semWait_eq 𝒱₀ (c : Thread nD τ) none Set.univ) (Set.mem_univ _) () (O := afterSignal σ c) (W := W) (R := 0) (m := 0) (T := ∅)
      (by rw [Nat.zero_add]; exact (expect_cell σ m c 0).symm)) $$ [HcB HO HatB]
  · isplitr; · iexact HIbar
    isplitl [HcB]; · iexact HcB
    isplitl [HO]; · iexact HO
    isplitr; · iapply (wait_barrier σ c); iexact Hlev
    iexact HatB
  iintro ⟨HO, HatB, -, Hpay⟩
  ihave Hp := (Entails.of_eq (rest_cell σ m c 0)) $$ Hpay
  unfold hand
  icases Hp with ⟨%f, Hn⟩
  -- the transfer
  iapply (wp_transfer σ m K c _ (dev2_is (own_word (F := F) σ c) (chk2_ofNat (own_word (F := F) σ c))) f (insert (SemLoc.reg barS, ()) W)) $$ [Hx Hn HO HtS HtV]
  · isplitr; · iexact HIsnd
    isplitr; · iexact HIrcvN
    isplitl [Hx]; · iexact Hx
    isplitl [Hn]; · iexact Hn
    isplitl [HO]; · iexact HO
    isplitl [HtS]; · iexact HtS
    isplitr; · iexact HrS
    isplitl [HtV]; · iexact HtV
    iexact HrV
  iintro ⟨HcS, HO⟩
  -- the wait until its own block has left
  iapply (Rounds.wp_wait_rest_token 𝒱₀ ER (plan σ m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add]; exact (expect_cell σ m c 1).symm)) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hx := (Entails.of_eq (rest_cell σ m c 1)) $$ Hpay
  -- the wait until the block sent to it has arrived
  iapply (Rounds.wp_wait_rest_token 𝒱₀ ER (plan σ m) (c : Thread nD τ) none (κ := K (c, 2))
      (wpE_waitDma2_eq 𝒱₀ (c : Thread nD τ) none Set.univ) (Set.mem_univ _) () (O := 0)
      (W := insert (SemLoc.dma sendS, ()) (insert (SemLoc.reg barS, ()) W)) (R := 0) (m := 0) (T := ∅)
      (by rw [Nat.zero_add]; exact (expect_cell σ m c 2).symm)) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hout := (Entails.of_eq (rest_cell σ m c 2)) $$ Hpay
  unfold hand
  -- the three counters are the device's again, at zero
  imod (Rounds.cell_close ER (plan σ m) (Set.mem_univ (K (c, 1))) (fun h => h) (R := 0 + 1) (duties_later σ m (sendCell c))) $$ [HatS] with HzS
  · isplitr; · iexact HIsnd
    iexact HatS
  imod (Rounds.cell_close ER (plan σ m) (Set.mem_univ (K (c, 2))) (fun h => h) (R := 0 + 1) (duties_later σ m (recvCell c))) $$ [HatV] with HzV
  · isplitr; · iexact HIrcv
    iexact HatV
  imod (Rounds.cell_close ER (plan σ m) (Set.mem_univ (K (c, 0))) (fun h => h) (R := 0 + 1) (duties_later σ m (barCell c))) $$ [HatB] with HzB
  · isplitr; · iexact HIbar
    iexact HatB
  rw [wp_ret]; imodintro
  iapply Hk
  unfold bodyPost after Dat.owesAt Pipeline.owesWithin
  rw [show (dats σ m 0 c).owed t0_0.succ = 0 from rfl]
  isplitl [HzS HzV HzB Hx Hout]
  · isplitl [HzS HzV]
    · isplitl [HzS] <;> iassumption
    isplitl [HzB]; · iexact HzB
    isplitl [Hx] <;> iassumption
  isplitl [HO]
  · iexists (insert (SemLoc.dma recvS, ()) (insert (SemLoc.dma sendS, ()) (insert (SemLoc.reg barS, ()) W)))
    isplitr; · ipureintro; exact fun _ _ => Or.inl trivial
    iexact HO
  iexists _; isplitr
  · ipureintro; exact (hT.staged c).symm
  iexact Ht

/-- The library's obligation for the body on device `c`. -/
theorem body_obligation (hT : Holds σ m) (c : Dev nD) : BodyObligation (dats (F := F) σ m 0 c) (defs₀ (F := F)) 𝒱₀ () Set.univ := fun t => by
  rw [fin_N0 t]
  rw [bigSep_W, bigSep_W]
  simp only [owns_whole_eq]
  show iprop(before σ m c ∗ (dats σ m 0 c).owesAt () t0_0.castSucc ∗ (∃ d, stg c cc0_stg0_0 ((dats σ m 0 c).before (0 : Fin 1) t0_0 d)))
    ⊢ wp frame (wpE (defs₀ (F := F)) 𝒱₀ c none) Set.univ
      (cc0_body (Memref.whole cc0_stg0_0) (Memref.isWhole_whole _) (Memref.whole main_arg0) (Memref.isWhole_whole _)
        (Memref.whole main_v1) (Memref.isWhole_whole _) cc0_scratch0 cc0_scratch1) (fun _ => bodyPost σ m c)
  unfold before
  iintro ⟨⟨⟨%K, Hg⟩, Hrest⟩, Ho, Ht⟩
  iapply (sound_body σ m K hT c fun _ => bodyPost σ m c)
  unfold bodyPre
  isplitr []
  · isplitl [Hg Hrest]
    · isplitl [Hg] <;> iassumption
    isplitl [Ho] <;> iassumption
  · iintro H; iexact H

end Cert.Shards

end
-- ==== Proof.Launch.lean ====
/-
# The run of all devices

The counters are allocated, the duties dealt to the devices that pay them, and the library's launch theorem applied.
At the end device `c` holds in its result buffer the block of `σ⁻¹ c`.
-/
module

public import proofs.«01_k».proof.Proof.Body
public import Idealize.ShloMosaic.Lib.Pipeline.CollectiveSegs

@[expose] public section

noncomputable section

namespace Cert.Shards

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf launchToks)

variable {F : FTy → Type} [FloatOps F]

local notation "𝕄" => MT nD τ sig Unit (Elt F) ℕ UU ℕ

variable (σ : Perm) (m : (ℓ : Loc nD τ sig) → Buf (Elt F) ℓ)

/-! ## The counters and their duties at launch -/

theorem ownSemFacts : Pipeline.OwnSemFacts cfg0.spec osem := by decide

theorem cell_injective : Function.Injective (cell : Dev nD × Fin 3 → GSem nD τ sig) := by
  rintro ⟨c, k⟩ ⟨d, l⟩ h
  have hc : c = d := congrArg (fun g : GSem nD τ sig => g.1.1) h
  have hk : k = l := csem_inj (congrArg Prod.snd h)
  rw [hc, hk]

/-- All counters of all devices, and the one duty of each. -/
def allCells : Finset (GSem nD τ sig) := Finset.univ.map ⟨cell, cell_injective⟩
abbrev duty (ck : Dev nD × Fin 3) : GSem nD τ sig × ℕ × Unit := (cell ck, 0, ())
theorem duty_injective : Function.Injective duty := fun _ _ h => cell_injective (congrArg Prod.fst h)
def allDuties : Finset (GSem nD τ sig × ℕ × Unit) := Finset.univ.map ⟨duty, duty_injective⟩

def u₀ : UU :=
  (initOf (Pipeline.cells cfgs cellOf_inj) (Pipeline.launchToks cfgs cellOf_inj), initOf allCells allDuties)

/-- What the launch deals for counter `k` of device `c`: its state, the place at it, and its duty. -/
def G (c : Dev nD) : sProp 𝕄 :=
  iprop((bigSep Finset.univ fun k : Fin 3 => roundState ER (plan σ m) (cell (c, k)) 0)
    ∗ (bigSep Finset.univ fun k : Fin 3 => iprop(atPos ER (cell (c, k)) 0 ∅ 0 ∗ reached ER (cell (c, k)) 0))
    ∗ bigSep Finset.univ fun k : Fin 3 => dutyTok ER (cell (c, k)) 0 ())

/-- What device `c` starts from once the invariants are allocated. -/
def G' (c : Dev nD) : sProp 𝕄 := iprop(∃ K, ghost σ m K c)

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
theorem deal : BI.own (ER (initOf allCells allDuties)) ⊢ (|==> bigSep Finset.univ (G σ m) : sProp 𝕄) := by
  have hX (Φ : GSem nD τ sig → sProp 𝕄) : bigSep allCells Φ = bigSep Finset.univ fun c : Dev nD => bigSep Finset.univ fun k : Fin 3 => Φ (cell (c, k)) := by
    unfold allCells; rw [bigSep_map, bigSep_univ_prod]; rfl
  have hT : bigSep allDuties (fun x => (dutyTok ER x.1 x.2.1 x.2.2 : sProp 𝕄))
      = bigSep Finset.univ fun c : Dev nD => bigSep Finset.univ fun k : Fin 3 => dutyTok ER (cell (c, k)) 0 () := by
    unfold allDuties; rw [bigSep_map, bigSep_univ_prod]; rfl
  iintro HX
  imod (Rounds.fund ER (plan σ m) allCells allDuties) $$ HX with ⟨Hst, Hr, Hat, Htok⟩
  imodintro
  ihave Hst := (Entails.of_eq (hX fun g => roundState ER (plan σ m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The invariants of one device's three counters. -/
theorem allocate (c : Dev nD) :
    iprop(Pipeline.ownSems0 (Ix := Unit) (Name := ℕ) (U := UU) (Lvl := ℕ) (Val := Elt F) (τ := τ) osem c ∗ unscopedSems0 c ∗ G σ m c)
      ⊢ |={Set.univ}=> iprop((bigSep Finset.univ fun k => iprop(∃ κ : ℕ, cellInv ER (plan σ m) κ (cell (c, k))))
          ∗ (bigSep Finset.univ fun k => iprop(atPos ER (cell (c, k)) 0 ∅ 0 ∗ reached ER (cell (c, k)) 0))
          ∗ bigSep Finset.univ fun k => dutyTok ER (cell (c, k)) 0 ()) := by
  rw [ownSems0_eq, unscopedSems0_eq]
  unfold G
  iintro ⟨⟨HS, HV⟩, HB, Hst, Hat, Htok⟩
  imod (show iprop((bigSep Finset.univ fun k : Fin 3 => semVal (cell (c, k)) 0) ∗ bigSep Finset.univ fun k : Fin 3 => roundState ER (plan σ m) (cell (c, k)) 0)
      ⊢ (|={Set.univ}=> bigSep Finset.univ fun k => iprop(∃ κ : ℕ, cellInv ER (plan σ m) κ (cell (c, k))) : sProp 𝕄) from by
        rw [← bigSep_sep']
        exact (bigSep_mono fun k _ => (Rounds.body_intro ER (plan σ m) (cell (c, k))).trans inv_alloc).trans (bigSep_fupd _ _)) $$ [HS HV HB Hst] with Hinv
  · isplitl [HS HV HB]
    · rw [bigSep_three]
      isplitl [HB]; · iexact HB
      isplitl [HS] <;> iassumption
    iexact Hst
  imodintro
  isplitl [Hinv]; · iexact Hinv
  isplitl [Hat] <;> iassumption

/-- The invariants of all counters, and that each is in round 0. -/
def records (K : Dev nD × Fin 3 → ℕ) : sProp 𝕄 :=
  iprop((bigSep Finset.univ fun ck : Dev nD × Fin 3 => cellInv ER (plan σ m) (K ck) (cell ck))
    ∗ bigSep Finset.univ fun ck : Dev nD × Fin 3 => reached ER (cell ck) 0)

omit [FloatOps F] in
instance records_persistent (K : Dev nD × Fin 3 → ℕ) : BI.Persistent (records (F := F) σ m K) := by unfold records; infer_instance

omit [FloatOps F] in
theorem records_at (K : Dev nD × Fin 3 → ℕ) (ck : Dev nD × Fin 3) :
    records (F := F) σ m K ⊢ iprop(cellInv ER (plan σ m) (K ck) (cell ck) ∗ reached ER (cell ck) 0) :=
  BI.sep_mono (bigSep_elim (Finset.mem_univ ck)) (bigSep_elim (Finset.mem_univ ck))

/-- The places at its own counters, and the duties it pays. -/
def paying (c : Dev nD) : sProp 𝕄 :=
  iprop((bigSep Finset.univ fun k : Fin 3 => atPos ER (cell (c, k)) 0 ∅ 0)
    ∗ dutyTok ER (barCell (σ.symm c)) 0 () ∗ dutyTok ER (sendCell c) 0 () ∗ dutyTok ER (recvCell (σ c)) 0 ())

omit [FloatOps F] in
theorem ghost_intro (K : Dev nD × Fin 3 → ℕ) (c : Dev nD) : iprop(records σ m K ∗ paying σ c) ⊢ G' (F := F) σ m c := by
  unfold paying G' ghost invs
  rw [bigSep_three]
  iintro ⟨#H, Hat, Htok⟩
  ihave #⟨I0, -⟩ := (records_at σ m K (c, 0)) $$ H
  ihave #⟨I1, R1⟩ := (records_at σ m K (c, 1)) $$ H
  ihave #⟨I2, -⟩ := (records_at σ m K (c, 2)) $$ H
  ihave #⟨IP, RP⟩ := (records_at σ m K (σ.symm c, 0)) $$ H
  ihave #⟨IN, RN⟩ := (records_at σ m K (σ c, 2)) $$ H
  iexists K
  isplitr
  · isplitr; · iexact I0
    isplitr; · iexact I1
    isplitr; · iexact I2
    isplitr <;> iassumption
  isplitl [Hat]; · iexact Hat
  isplitr
  · isplitr; · iexact RP
    isplitr <;> iassumption
  iexact Htok

omit [FloatOps F] in
/-- The duties go to the devices that pay them: the barrier's to `σ c`, the receive's to `σ⁻¹ c`. -/
theorem deal_duties : (bigSep Finset.univ fun c : Dev nD => bigSep Finset.univ fun k : Fin 3 => (dutyTok ER (cell (c, k)) 0 () : sProp 𝕄))
    ⊢ bigSep Finset.univ fun c : Dev nD =>
      iprop(dutyTok ER (barCell (σ.symm c)) 0 () ∗ dutyTok ER (sendCell c) 0 () ∗ dutyTok ER (recvCell (σ c)) 0 ()) := by
  simp only [bigSep_three, bigSep_sep']
  rw [bigSep_univ_equiv σ.symm (fun c : Dev nD => (dutyTok ER (cell (c, 0)) 0 () : sProp 𝕄)),
    bigSep_univ_equiv σ (fun c : Dev nD => (dutyTok ER (cell (c, 2)) 0 () : sProp 𝕄))]

omit [FloatOps F] in
theorem regroup :
    (bigSep Finset.univ fun c : Dev nD => iprop((bigSep Finset.univ fun k => iprop(∃ κ : ℕ, cellInv ER (plan σ m) κ (cell (c, k))))
          ∗ (bigSep Finset.univ fun k => iprop(atPos ER (cell (c, k)) 0 ∅ 0 ∗ reached ER (cell (c, k)) 0))
          ∗ bigSep Finset.univ fun k => dutyTok ER (cell (c, k)) 0 ()) : sProp 𝕄)
      ⊢ bigSep Finset.univ (G' σ m) := by
  simp only [bigSep_sep']
  rw [← bigSep_univ_prod (fun ck : Dev nD × Fin 3 => iprop(∃ κ : ℕ, cellInv ER (plan σ m) κ (cell ck))),
    ← bigSep_univ_prod (fun ck : Dev nD × Fin 3 => (reached ER (cell ck) 0 : sProp 𝕄))]
  iintro ⟨HI, ⟨Hat, #HR⟩, Htok⟩
  ihave ⟨%K, #HI⟩ := (BI.bigSep_exists_pi Finset.univ (fun (ck : Dev nD × Fin 3) (κ : ℕ) => (cellInv ER (plan σ m) κ (cell ck) : sProp 𝕄))) $$ HI
  ihave Htok := (deal_duties (F := F) σ) $$ Htok
  iapply (BI.bigSep_with_persistent (R := records σ m K) fun c _ => ghost_intro σ m K c)
  isplitr
  · unfold records; isplitl; · iexact HI
    iexact HR
  rw [show bigSep Finset.univ (paying (F := F) σ) = _ from bigSep_sep' _ _ _]
  isplitl [Hat] <;> iassumption

omit [FloatOps F] in
theorem glob : (bigSep Finset.univ fun c => iprop(Pipeline.ownSems0 (Ix := Unit) (Name := ℕ) (U := UU) (Lvl := ℕ) (Val := Elt F) (τ := τ) osem c ∗ unscopedSems0 c ∗ G σ m c) : sProp 𝕄)
    ⊢ |={Set.univ}=> bigSep Finset.univ (G' σ m) :=
  ((bigSep_mono fun c _ => allocate σ m c).trans (bigSep_fupd _ _)).trans (BI.fupd_mono (regroup σ m))

/-! ## The credit at launch -/

/-- What device `d` owes counter `g` at launch. -/
theorem owed_eq (d : Dev nD) (g : GSem nD τ sig) :
    atLaunch σ d g () = (if g = recvCell (σ d) then N else 0) + (if g = barCell (σ.symm d) then 1 else 0) := by
  unfold atLaunch afterSignal
  rw [Pi.add_apply, Finsupp.add_apply, tallyAt_apply, tallyAt_apply]
  exact congrArg₂ (· + ·) (if_congr (and_iff_left rfl) rfl rfl) (if_congr (and_iff_left rfl) rfl rfl)

theorem bar_ne_recv (c d : Dev nD) : barCell c ≠ recvCell d :=
  fun h => absurd (Prod.mk.inj (cell_injective (a₁ := (c, 0)) (a₂ := (d, 2)) h)).2 (by decide)
theorem of_cell_eq {c d : Dev nD} {k : Fin 3} (h : cell (c, k) = cell (d, k)) : c = d := (Prod.mk.inj (cell_injective h)).1

theorem launch_bar (c : Dev nD) :
    tallyOn (barCell c) (launchCredit (Pipeline.owing (atLaunch σ)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_eq_single (σ c)]
  · rw [owed_eq, if_neg (bar_ne_recv _ _), if_pos (by rw [Equiv.symm_apply_apply])]
  · intro d _ hd
    rw [owed_eq, if_neg (bar_ne_recv _ _), if_neg fun h => hd (by rw [of_cell_eq (k := 0) h, Equiv.apply_symm_apply]), Nat.add_zero]
  · exact fun h => absurd (Finset.mem_univ _) h

theorem launch_recv (c : Dev nD) :
    tallyOn (recvCell c) (launchCredit (Pipeline.owing (atLaunch σ)) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_eq_single (σ.symm c)]
  · rw [owed_eq, if_pos (by rw [Equiv.apply_symm_apply]), if_neg (bar_ne_recv _ _).symm, Nat.add_zero]
  · intro d _ hd
    rw [owed_eq, if_neg fun h => hd (by rw [of_cell_eq (k := 2) h, Equiv.symm_apply_apply]), if_neg (bar_ne_recv _ _).symm, Nat.add_zero]
  · exact fun h => absurd (Finset.mem_univ _) h

omit [FloatOps F] in
theorem launch_credits (c : Dev nD) :
    (Pipeline.launchCred (atLaunch σ) c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv σ c]
  exact bigSep_elim (Finset.mem_erase.mpr ⟨by decide, Finset.mem_univ _⟩)

/-! ## Before and after the body -/

omit [FloatOps F] in
theorem buffers_eq (c : Dev nD) :
    (Pipeline.unscopedRestP Pipeline.Prefetch.none cfg0.spec c (fun b => m ((c : Thread nD τ).loc b)) : sProp 𝕄)
      = iprop(xPts m c ∗ oPts c (m ((c : Thread nD τ).loc main_v1))) := by
  rw [Pipeline.unscopedRestP_eq_of_list _ _ _ _ [main_arg0, main_v1] (by decide) (by decide), xPts_eq, oPts_eq]
  rfl

theorem enter (ρ : Dev nD → PrngReg) (c : Dev nD) :
    iprop(Pipeline.unscopedRestP Pipeline.Prefetch.none cfg0.spec c (fun b => m ((c : Thread nD τ).loc b)) ∗ levAts L lv
        ∗ Pipeline.launchCred (atLaunch σ) c ∗ prngReg c (ρ c) ∗ G' σ m c)
      ⊢ |={Set.univ}=> iprop(before σ m c ∗ emp) := by
  rw [buffers_eq]
  iintro ⟨⟨Hx, Ho⟩, Hlev, Hcr, -, HG⟩
  ihave ⟨H1, HN⟩ := (launch_credits (F := F) σ c) $$ Hcr
  imodintro
  unfold before credits G'
  isplitl
  · isplitl [HG]; · iexact HG
    isplitl [H1 HN Hlev]
    · isplitl [H1]; · iexact H1
      isplitl [HN] <;> iassumption
    isplitl [Hx]; · iexact Hx
    iexists _; iexact Ho
  · iempintro

theorem begin_body (c : Dev nD) :
    iprop(before σ m c ∗ Pipeline.prefHeld Pipeline.Prefetch.none c (fun _ => fullShare.right) (fun k => k.elim0) ∗ Pipeline.scopedRest cfg0.spec c)
      ⊢ (dats σ m 0 c).Φ 0 := by
  rw [show (dats σ m 0 c).Φ 0 = before σ m c from rfl]
  iintro ⟨H, -, -⟩; iexact H

/-- What is left of a device's own when the body has ended: its two buffers and its barrier counter. -/
def ending (c : Dev nD) : sProp 𝕄 := iprop((xPts m c ∗ oPts c (blockOf m (σ.symm c))) ∗ unscopedSems0 c)

theorem end_body (c : Dev nD) :
    (dats σ m 0 c).Φ (Fin.last cfg0.N) ⊢ iprop(ending σ m c ∗ Pipeline.ownSems0 osem c ∗ Pipeline.scopedRest cfg0.spec c) := by
  rw [show (dats σ m 0 c).Φ (Fin.last cfg0.N) = after σ m c from rfl, scopedRest0_eq, ownSems0_eq]
  unfold ending after
  rw [unscopedSems0_eq]
  iintro ⟨HS, HB, Hbuf⟩
  isplitl [HB Hbuf]
  · isplitl [Hbuf] <;> iassumption
  isplitl [HS]; · iexact HS
  iempintro

/-- What a device's part of the final memory holds. -/
def Ends (c : Dev nD) (s : MemSt nD τ sig (Elt F)) : Prop :=
  (s.mem ((c : Thread nD τ).loc main_v1) = blockOf m (σ.symm c) ∧ s.mem ((c : Thread nD τ).loc main_arg0) = blockOf m c)
    ∧ ∀ sm : SemLoc sig, sm.isScoped .tc = false → s.sem ((c.tc : Thread nD τ), sm) = 0

theorem ending_read (c : Dev nD) (s' : Phys nD τ sig (Elt F)) :
    iprop(ending σ m c ∗ emp ∗ SI s') ⊢ |={Set.univ}=> iprop(⌜Ends σ m c s'.mem⌝ ∗ SI s') := by
  unfold ending Ends
  rw [xPts_eq, oPts_eq]
  iintro ⟨⟨⟨Hx, Ho⟩, Hu⟩, -, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro; exact ⟨⟨Buf.eq_of_forall_mem_univ ho, Buf.eq_of_forall_mem_univ hx⟩, hu⟩
  iexact HSI

omit [FloatOps F] in
theorem staging_waits (c : Dev nD) : (levAts L lv : sProp 𝕄) ⊢ Pipeline.cellsWaits cfgs (dats σ m) () 0 c :=
  Pipeline.cellsWaits_intro cfgs (dats σ m) () 0 c fun w s t =>
    wait_staging σ c _ (by fin_cases w <;> fin_cases s <;> decide) _ (by
      rcases t with ⟨_ | _, ht⟩
      · exact Or.inl rfl
      · exact Or.inr rfl)

theorem share_eq (c : Dev nD) (w : Fin cfg0.W) : (dats σ m 0 c).share w = fullShare := by unfold Dat.share; split <;> rfl

/-! ## The run -/

/-- What the run of all devices ends with, the counters apart. -/
def Done (s : MemSt nD τ sig (Elt F)) : Prop :=
  ∀ c : Dev nD, s.mem ((c : Thread nD τ).loc main_v1) = blockOf m (σ.symm c)
    ∧ s.mem ((c : Thread nD τ).loc main_arg0) = m ((c : Thread nD τ).loc main_arg0)
    ∧ s.mem ((c : Thread nD τ).loc main_arg1) = m ((c : Thread nD τ).loc main_arg1)

set_option maxRecDepth 8000 in
/-- Whatever the float values, every execution in which every device holds the table of `σ` ends, each device with the
    block of `σ⁻¹ c`, its arguments as they were, and every counter at zero. -/
theorem run_main (hT : Holds σ m) (ρ : Dev nD → PrngReg) :
    θ_run defs (onTc (τ := τ) (main (F := F))) ⟨m, fun _ => 0, ρ⟩ (fun r => Done σ m r.2 ∧ r.2.sem = fun _ => 0) :=
  Pipeline.θ_run_region_owing_glob_pf (fun p => (cfgs p).toPCfg) (fun p => (cfgs p).toPCfg_adm) (dats σ m) () cellOf_inj (0 : Fin 1)
    winFacts0.to₀ ownSemFacts (Pipeline.PreFacts.none _) EP defs₀ 𝒱₀ m ρ main
    (hmain := fun _ => rfl)
    (hbody := fun c => (body_obligation σ m hT c).loose) (hne := fun w => by fin_cases w <;> exact Nat.succ_pos _) (harr := arr_whole0) (hstage := stage_whole0) (hshare := share_eq σ m)
    (hdistinct := winFacts0.arr_inj)
    (O₀ := atLaunch σ) (howed₀ := fun _ => rfl) (howedN := fun _ => rfl)
    (L := L) (lv := lv) (hL := L_of_ne) (hwaits := staging_waits σ m)
    (G := G σ m) (G' := G' σ m) (u₀ := u₀)
    (hu₀ := by
      unfold u₀
      iintro Hu
      ihave ⟨HP, HX⟩ := (ownU_pair _ _) $$ Hu
      imod (deal σ m) $$ HX with HG
      imodintro
      isplitl [HP] <;> iassumption)
    (hglob := glob σ m)
    (hA := fun _ _ => rfl) (hpf := fun _ k => k.elim0)
    (X := before σ m) (Y := ending σ m) (Z := fun _ => iprop(emp))
    (hX := enter σ m ρ) (hin := begin_body σ m) (hout := end_body σ m)
    (QY := Ends σ m) (hY := ending_read σ m)
    (hQ := fun _ h hs => ⟨fun c => ⟨(h c).2.2.1.1, (h c).2.2.1.2, ((h c).1 0).trans ((dats σ m 0 c).arrAt_in (0 : Fin 1) rfl _)⟩,
      sem_eq_zero hs fun c => (h c).2.2.2⟩)

end Cert.Shards

end
-- ==== Proof.Value.lean ====
/-
# The reference, read

The reference takes the rows of its array at the positions a stable argsort of the table gives. Where the table is that of
a permutation `σ`, the argsort is the table of `σ⁻¹`, no start index is negative or out of range, and row `r` of the
result is row `σ⁻¹ r` of the array.
-/
module

public import proofs.«01_k».proof.Proof.Table
public import proofs.«01_k».proof.Proof.Gen.ReferenceIdeal
public import Idealize.ShloMosaic.Lib.Routing.SortLink
public import Idealize.ShloMosaic.Lib.Layout

@[expose] public section

noncomputable section

namespace Cert.Shards

open Cert.ReferenceIdeal Cert.ReferenceIdeal.Gen
open Idealize.ShloMosaic Idealize.ShloMosaic.TcCoe

/-! ## The argsort -/

/-- The sort's comparison, of two words below 32, is that of their numbers. -/
theorem before_words (a b : Fin 32) :
    (IntOp.cmpi .slt (BitVec.ofNat 32 a.val) (BitVec.ofNat 32 b.val) == 1#1) = decide (a.val < b.val) := by
  revert a b; decide +kernel

/-- The position a stable sort of the words of `σ` fetches for place `r` is the one at which `r` stands. -/
theorem sorted_place (σ : Perm) (r : Fin 32) :
    sortedFrom (fun k k' : Fin 32 => IntOp.cmpi .slt (BitVec.ofNat 32 (σ k).val) (BitVec.ofNat 32 (σ k').val) == 1#1) r = σ.symm r := by
  simp only [before_words]
  have hlen : r.val < ((List.finRange 32).map σ.symm).length := by rw [List.length_map, List.length_finRange]; exact r.isLt
  rw [Routing.sortedFrom_eq (fun k : Fin 32 => (σ k).val) (fun a b h => σ.injective (Fin.ext h)) ((List.finRange 32).map σ.symm)
    ?_ ?_ r hlen]
  · simp
  · refine (List.perm_ext_iff_of_nodup ?_ (List.nodup_finRange 32)).2 fun a => ?_
    · exact (List.nodup_finRange 32).map σ.symm.injective
    · exact ⟨fun _ => List.mem_finRange a, fun _ => List.mem_map.2 ⟨σ a, List.mem_finRange _, σ.symm_apply_apply a⟩⟩
  · rw [List.pairwise_map]
    exact (List.pairwise_lt_finRange 32).imp fun h => by simpa using h

theorem along_zero (i : S32.Idx) (k : Fin 32) : i.along (0 : Fin 1) k 0 = k := by
  exact Function.update_self ..

/-- The argsort of a permutation's table is the inverse permutation's. -/
theorem argsort_table (σ : Perm) :
    (Host.sort2 S32 0 comparator_i32_i32_d0 (table σ) (iotaInDim S32 32 0)).2 = table σ.symm := by
  funext i
  have e : ∀ k : Fin 32, table σ (i.along (0 : Fin 1) k) = BitVec.ofNat 32 (σ k).val := fun k => by
    unfold table; rw [along_zero]
  have hd : 0 < S32.rank := Nat.one_pos
  unfold Host.sort2
  rw [dif_pos hd]
  show BitVec.ofNat 32 (i.along (0 : Fin 1) (sortedFrom (n := 32) (fun k k' =>
    IntOp.cmpi .slt (table σ (i.along (0 : Fin 1) k)) (table σ (i.along (0 : Fin 1) k')) == 1#1) (i 0)) 0).val = _
  simp only [e, along_zero]
  exact congrArg (fun k : Fin 32 => BitVec.ofNat 32 k.val) (sorted_place σ (i 0))

/-! ## The rows taken -/

/-- A word below 32 is left alone by the wrap of negative positions. -/
theorem wrap_word (a : Fin 32) :
    (if IntOp.cmpi .slt (BitVec.ofNat 32 a.val) 0#32 = 1#1 then IntOp.addi (BitVec.ofNat 32 a.val) 32#32 else BitVec.ofNat 32 a.val)
      = BitVec.ofNat 32 a.val := by
  revert a; decide +kernel

/-- Read signed and clamped to the array's 32 rows, it is its number. -/
theorem clamp_word (a : Fin 32) : min (BitVec.ofNat 32 a.val).toInt.toNat (32 - 1) = a.val := by
  revert a; decide +kernel

/-- The positions the reference takes rows at, from a table of positions. -/
abbrev starts (t : IVec S32 32) : IVec S32x1 32 :=
  broadcastInDim S32x1 ![0] bcast_S32_S32x1_0
    (select (cmpi .slt t (broadcastInDim S32 ![] bcast_S_S32 (constantI S_ 32 0#32)))
      (addi t (broadcastInDim S32 ![] bcast_S_S32 (constantI S_ 32 32#32))) t)

theorem starts_table (σ : Perm) (i : S32x1.Idx) : starts (table σ) i = BitVec.ofNat 32 (σ (i 0)).val :=
  wrap_word (σ (i 0))

/-- The reference's result, from its array and its table. -/
abbrev rows {α : Type} (X : S32x512x512.Idx → α) (t : IVec S32 32) : S32x512x512.Idx → α :=
  Host.gather gather_S32x512x512_S32x1_S32x512x512_12_0_n_n_0_1_1512512 X
    (starts (Host.sort2 S32 0 comparator_i32_i32_d0 t (iotaInDim S32 32 0)).2)

/-- The index of the array at row `r`, the other coordinates those of `j`. -/
abbrev atRow (r : Fin 32) (j : S32x512x512.Idx) : S32x512x512.Idx := Function.update j (0 : Fin 3) r

/-- Taking rows at the words of `σ` reads, for row `r`, row `σ r`. -/
theorem take_rows {α : Type} (σ : Perm) (X : S32x512x512.Idx → α) (j : S32x512x512.Idx) :
    Host.gather gather_S32x512x512_S32x1_S32x512x512_12_0_n_n_0_1_1512512 X (starts (table σ)) j = X (atRow (σ (j 0)) j) := by
  unfold Host.gather
  congr 1
  funext a
  apply Fin.ext
  match a with
  | ⟨0, _⟩ => exact (congrArg (fun w : BitVec 32 => min w.toInt.toNat (32 - 1)) (starts_table σ _)).trans (clamp_word (σ (j 0)))
  | ⟨1, _⟩ => exact (Nat.zero_add _)
  | ⟨2, _⟩ => exact (Nat.zero_add _)

/-- Block `c` of the reference's result is block `σ⁻¹ c` of its array. -/
theorem block_rows {α : Type} (σ : Perm) (X : S32x512x512.Idx → α) (c : Fin 32) :
    Layout.block ⟨3, ![1, 512, 512]⟩ ⟨3, ![32, 512, 512]⟩ 0 32 c (rows X (table σ))
      = Layout.block ⟨3, ![1, 512, 512]⟩ ⟨3, ![32, 512, 512]⟩ 0 32 (σ.symm c) X := by
  funext i
  show Host.gather _ X _ _ = X _
  rw [argsort_table, take_rows]
  congr 1
  have hi : (i 0).val = 0 := Nat.lt_one_iff.1 (i 0).isLt
  have own : ∀ (k : Fin 32) (n : Nat), n = 0 → k.val * 1 + n = k.val := fun k n h => by omega
  funext a
  apply Fin.ext
  match a with
  | ⟨0, _⟩ =>
    refine Eq.trans (congrArg (fun k : Fin 32 => (σ.symm k).val) (Fin.ext (own c _ hi))) (own (σ.symm c) _ hi).symm
  | ⟨1, _⟩ => rfl
  | ⟨2, _⟩ => rfl

end Cert.Shards

end
-- ==== Proof.Rolls.lean ====
/-
# The claims, from a table every device holds

The tables the claims are made at are the cyclic shifts: the preconditions are read as the table of a shift, and each
claim is proved once, for whichever shift the devices hold.
-/
module

public import proofs.«01_k».proof.Proof.Launch
public import proofs.«01_k».proof.Proof.Value
public import proofs.«01_k».proof.Proof.Gen.ReferenceIdeal.Run
public import proofs.«01_k».proof.Proof.Gen.Kernel
public import proofs.«01_k».proof.Defs

@[expose] public section

noncomputable section

namespace Cert.Shards

open Idealize.ShloMosaic Idealize.ShloMosaic.TcCoe Idealize.SL.Sem

/-! ## The shifts -/

/-- The shift by `k`: device `c` sends to the device `k` further along, around the ring. -/
def roll (k : Fin 32) : Perm := Equiv.addRight k

/-- The precondition's arithmetic on words is the shift's on devices. -/
theorem roll_word (k a : Fin 32) :
    IntOp.andi (IntOp.addi (BitVec.ofNat 32 a.val) (BitVec.ofNat 32 k.val)) 31#32 = BitVec.ofNat 32 (a + k).val := by
  revert k a; decide +kernel

theorem eq_of_cmpi {a b : BitVec 32} (h : IntOp.cmpi .eq a b = 1#1) : a = b := by
  by_contra hne
  have : IntOp.cmpi .eq a b = 0#1 := by
    show BitVec.ofBool (a == b) = 0#1
    rw [beq_false_of_ne hne]; rfl
  rw [this] at h
  exact absurd h (by decide)

/-- A table whose every word passes the precondition's comparison is the shift's. -/
theorem table_of (k : Fin 32) (t : IVec KernelIdeal.S32 32) (hb : ReferenceIdeal.S_.BroadcastsInDim KernelIdeal.S32 ![])
    (h : cmpi .eq t (andi (addi (iotaInDim KernelIdeal.S32 32 0) (broadcastInDim KernelIdeal.S32 ![] hb (constantI ReferenceIdeal.S_ 32 (BitVec.ofNat 32 k.val))))
      (broadcastInDim KernelIdeal.S32 ![] hb (constantI ReferenceIdeal.S_ 32 31#32))) = fun _ => 1#1) :
    t = table (roll k) := by
  funext i
  exact (eq_of_cmpi (congrFun h i)).trans (roll_word k (i 0))

/-! ## The frames -/

/-- The reference changes neither argument, whatever they hold, and declares no semaphore. -/
theorem frame_reference (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1))
      ∧ r.2.sem = fun _ => 0) :=
  (θ_run ReferenceIdeal.defs _ _).mono (fun r h => ⟨fun c => (h c).2, sem_eq_zero_of_no_sems (by decide) r.2⟩)
    (ReferenceIdeal.Value.run (F := Ideal) m g)

/-- The kernel, of real values, changes neither argument and leaves every counter at zero. -/
theorem frame_ideal (σ : Perm) (m : (ℓ : Loc KernelIdeal.nD KernelIdeal.τ KernelIdeal.sig) → Buf (Elt Ideal) ℓ) (g : Dev KernelIdeal.nD → PrngReg)
    (hT : Holds σ m) :
    θ_run (KernelIdeal.defs (F := Ideal)) (onTc (τ := KernelIdeal.τ) (KernelIdeal.main (F := Ideal))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) :=
  (θ_run KernelIdeal.defs _ _).mono (fun _ h => ⟨fun c => (h.1 c).2, h.2⟩) (run_main (F := Ideal) σ m hT g)

theorem bodies_eq : Kernel.defs₀ (F := Bits) = KernelIdeal.defs₀ (F := Bits) := by
  unfold Kernel.defs₀ KernelIdeal.defs₀
  refine congrArg Defs.onTc (funext fun l => funext fun a => ?_)
  match l, a with
  | ⟨0, _⟩, _ => rfl
  | ⟨_ + 1, h⟩, _ => exact absurd h (Nat.not_lt.2 (Nat.le_add_left _ _))

theorem defs_eq : Kernel.defs (F := Bits) = KernelIdeal.defs (F := Bits) :=
  congrArg (Pipeline.defs KernelIdeal.pcfgs) bodies_eq

/-- The kernel, of floats, likewise: its program is the same one. -/
theorem frame_kernel (σ : Perm) (m : (ℓ : Loc Kernel.nD Kernel.τ Kernel.sig) → Buf (Elt Bits) ℓ) (g : Dev Kernel.nD → PrngReg)
    (hT : ∀ c : Dev Kernel.nD, m ((c.tc : Thread Kernel.nD Kernel.τ).loc Kernel.main_arg1) = table σ) :
    θ_run (Kernel.defs (F := Bits)) (onTc (τ := Kernel.τ) (Kernel.main (F := Bits))) ⟨m, fun _ => 0, g⟩ (fun r => (∀ c : Dev Kernel.nD,
      r.2.mem ((c.tc : Thread Kernel.nD Kernel.τ).loc Kernel.main_arg0) = m ((c.tc : Thread Kernel.nD Kernel.τ).loc Kernel.main_arg0)
      ∧ r.2.mem ((c.tc : Thread Kernel.nD Kernel.τ).loc Kernel.main_arg1) = m ((c.tc : Thread Kernel.nD Kernel.τ).loc Kernel.main_arg1))
      ∧ r.2.sem = fun _ => 0) := by
  rw [defs_eq]
  exact (θ_run KernelIdeal.defs _ _).mono (fun _ h => ⟨fun c => (h.1 c).2, h.2⟩) (run_main (F := Bits) σ m hT g)

/-! ## The value -/

/-- From blocks of the reference's array and copies of its table, every device ends with its block of the reference's
    result. -/
theorem value (σ : Perm) (m : (ℓ : Loc KernelIdeal.nD KernelIdeal.τ KernelIdeal.sig) → Buf (Elt Ideal) ℓ) (g : Dev KernelIdeal.nD → PrngReg)
    (m' : (ℓ : Loc ReferenceIdeal.nD ReferenceIdeal.τ ReferenceIdeal.sig) → Buf (Elt Ideal) ℓ) (g' : Dev ReferenceIdeal.nD → PrngReg)
    (hT : Holds σ m)
    (hagree : ∀ c : Dev KernelIdeal.nD,
      m ((c.tc : Thread KernelIdeal.nD KernelIdeal.τ).loc KernelIdeal.main_arg0) = Layout.block ⟨3, ![1, 512, 512]⟩ ⟨3, ![32, 512, 512]⟩ 0 32 c (m' (((0 : Dev ReferenceIdeal.nD).tc : Thread ReferenceIdeal.nD ReferenceIdeal.τ).loc ReferenceIdeal.main_arg0))
      ∧ m ((c.tc : Thread KernelIdeal.nD KernelIdeal.τ).loc KernelIdeal.main_arg1) = m' (((0 : Dev ReferenceIdeal.nD).tc : Thread ReferenceIdeal.nD ReferenceIdeal.τ).loc ReferenceIdeal.main_arg1)) :
    ∃ (v0 : Buf (Elt Ideal) (((0 : Dev ReferenceIdeal.nD).tc : Thread ReferenceIdeal.nD ReferenceIdeal.τ).loc ReferenceIdeal.main_v7)),
      θ_run (KernelIdeal.defs (F := Ideal)) (onTc (τ := KernelIdeal.τ) (KernelIdeal.main (F := Ideal))) ⟨m, fun _ => 0, g⟩ (fun r => ∀ c : Dev KernelIdeal.nD,
          r.2.mem ((c.tc : Thread KernelIdeal.nD KernelIdeal.τ).loc KernelIdeal.main_v1) = Layout.block ⟨3, ![1, 512, 512]⟩ ⟨3, ![32, 512, 512]⟩ 0 32 c v0
          ∧ r.2.mem ((c.tc : Thread KernelIdeal.nD KernelIdeal.τ).loc KernelIdeal.main_arg0) = m ((c.tc : Thread KernelIdeal.nD KernelIdeal.τ).loc KernelIdeal.main_arg0)
          ∧ r.2.mem ((c.tc : Thread KernelIdeal.nD KernelIdeal.τ).loc KernelIdeal.main_arg1) = m ((c.tc : Thread KernelIdeal.nD KernelIdeal.τ).loc KernelIdeal.main_arg1))
      ∧ θ_run (ReferenceIdeal.defs (F := Ideal)) (onTc (τ := ReferenceIdeal.τ) (ReferenceIdeal.main (F := Ideal))) ⟨m', fun _ => 0, g'⟩ (fun r =>
          r.2.mem (((0 : Dev ReferenceIdeal.nD).tc : Thread ReferenceIdeal.nD ReferenceIdeal.τ).loc ReferenceIdeal.main_v7) = v0
          ∧ r.2.mem (((0 : Dev ReferenceIdeal.nD).tc : Thread ReferenceIdeal.nD ReferenceIdeal.τ).loc ReferenceIdeal.main_arg0) = m' (((0 : Dev ReferenceIdeal.nD).tc : Thread ReferenceIdeal.nD ReferenceIdeal.τ).loc ReferenceIdeal.main_arg0)
          ∧ r.2.mem (((0 : Dev ReferenceIdeal.nD).tc : Thread ReferenceIdeal.nD ReferenceIdeal.τ).loc ReferenceIdeal.main_arg1) = m' (((0 : Dev ReferenceIdeal.nD).tc : Thread ReferenceIdeal.nD ReferenceIdeal.τ).loc ReferenceIdeal.main_arg1)) := by
  have htab : m' (((0 : Dev ReferenceIdeal.nD).tc : Thread ReferenceIdeal.nD ReferenceIdeal.τ).loc ReferenceIdeal.main_arg1) = table σ :=
    (hagree 0).2.symm.trans (hT 0)
  refine ⟨rows (m' (((0 : Dev ReferenceIdeal.nD).tc : Thread ReferenceIdeal.nD ReferenceIdeal.τ).loc ReferenceIdeal.main_arg0)) (table σ),
    (θ_run KernelIdeal.defs _ _).mono (fun r h c => ⟨?_, (h.1 c).2⟩) (run_main (F := Ideal) σ m hT g),
    (θ_run ReferenceIdeal.defs _ _).mono (fun r h => ⟨?_, (h 0).2⟩) (ReferenceIdeal.Value.run (F := Ideal) m' g')⟩
  · exact ((h.1 c).1.trans (hagree (σ.symm c)).1).trans (block_rows σ _ c).symm
  · exact (h 0).1.trans (congrArg (rows _) htab)

end Cert.Shards

end
-- ==== Proof.lean ====
/-
# The claims

Every frame and every value claim is an application of a lemma of `Proof/Rolls.lean` to the shift its precondition names:
the table of `rolled_n` sends device `c` to the device `32 - n` further along.
-/
module

public import proofs.«01_k».proof.Defs
public import proofs.«01_k».proof.Proof.Gen.ReferenceIdeal
public import proofs.«01_k».proof.Proof.Gen.ReferenceIdeal.Run
public import proofs.«01_k».proof.Proof.Rolls
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_rolled_1_ReferenceIdeal
public import proofs.«01_k».proof.Proof.Gen.Pre_rolled_2_ReferenceIdeal
public import proofs.«01_k».proof.Proof.Gen.Pre_rolled_3_ReferenceIdeal
public import proofs.«01_k».proof.Proof.Gen.Pre_rolled_4_ReferenceIdeal
public import proofs.«01_k».proof.Proof.Gen.Pre_rolled_5_ReferenceIdeal
public import proofs.«01_k».proof.Proof.Gen.Pre_rolled_6_ReferenceIdeal
public import proofs.«01_k».proof.Proof.Gen.Pre_rolled_7_ReferenceIdeal
public import proofs.«01_k».proof.Proof.Gen.Pre_rolled_8_ReferenceIdeal
public import proofs.«01_k».proof.Proof.Gen.Pre_rolled_9_ReferenceIdeal
public import proofs.«01_k».proof.Proof.Gen.Pre_rolled_10_ReferenceIdeal
public import proofs.«01_k».proof.Proof.Gen.Pre_rolled_11_ReferenceIdeal
public import proofs.«01_k».proof.Proof.Gen.Pre_rolled_12_ReferenceIdeal
public import proofs.«01_k».proof.Proof.Gen.Pre_rolled_13_ReferenceIdeal
public import proofs.«01_k».proof.Proof.Gen.Pre_rolled_14_ReferenceIdeal
public import proofs.«01_k».proof.Proof.Gen.Pre_rolled_15_ReferenceIdeal
public import proofs.«01_k».proof.Proof.Gen.Pre_rolled_16_ReferenceIdeal
public import proofs.«01_k».proof.Proof.Gen.Pre_rolled_17_ReferenceIdeal
public import proofs.«01_k».proof.Proof.Gen.Pre_rolled_18_ReferenceIdeal
public import proofs.«01_k».proof.Proof.Gen.Pre_rolled_19_ReferenceIdeal
public import proofs.«01_k».proof.Proof.Gen.Pre_rolled_20_ReferenceIdeal
public import proofs.«01_k».proof.Proof.Gen.Pre_rolled_21_ReferenceIdeal
public import proofs.«01_k».proof.Proof.Gen.Pre_rolled_22_ReferenceIdeal
public import proofs.«01_k».proof.Proof.Gen.Pre_rolled_23_ReferenceIdeal
public import proofs.«01_k».proof.Proof.Gen.Pre_rolled_24_ReferenceIdeal
public import proofs.«01_k».proof.Proof.Gen.Pre_rolled_25_ReferenceIdeal
public import proofs.«01_k».proof.Proof.Gen.Pre_rolled_26_ReferenceIdeal
public import proofs.«01_k».proof.Proof.Gen.Pre_rolled_27_ReferenceIdeal
public import proofs.«01_k».proof.Proof.Gen.Pre_rolled_28_ReferenceIdeal
public import proofs.«01_k».proof.Proof.Gen.Pre_rolled_29_ReferenceIdeal
public import proofs.«01_k».proof.Proof.Gen.Pre_rolled_30_ReferenceIdeal
public import proofs.«01_k».proof.Proof.Gen.Pre_rolled_31_ReferenceIdeal
public import proofs.«01_k».proof.Proof.Gen.Pre_rolled_24_Kernel
public import proofs.«01_k».proof.Proof.Gen.Pre_rolled_1_Kernel
public import proofs.«01_k».proof.Proof.Gen.Pre_rolled_2_Kernel
public import proofs.«01_k».proof.Proof.Gen.Pre_rolled_3_Kernel
public import proofs.«01_k».proof.Proof.Gen.Pre_rolled_4_Kernel
public import proofs.«01_k».proof.Proof.Gen.Pre_rolled_5_Kernel
public import proofs.«01_k».proof.Proof.Gen.Pre_rolled_6_Kernel
public import proofs.«01_k».proof.Proof.Gen.Pre_rolled_7_Kernel
public import proofs.«01_k».proof.Proof.Gen.Pre_rolled_8_Kernel
public import proofs.«01_k».proof.Proof.Gen.Pre_rolled_9_Kernel
public import proofs.«01_k».proof.Proof.Gen.Pre_rolled_10_Kernel
public import proofs.«01_k».proof.Proof.Gen.Pre_rolled_11_Kernel
public import proofs.«01_k».proof.Proof.Gen.Pre_rolled_12_Kernel
public import proofs.«01_k».proof.Proof.Gen.Pre_rolled_13_Kernel
public import proofs.«01_k».proof.Proof.Gen.Pre_rolled_14_Kernel
public import proofs.«01_k».proof.Proof.Gen.Pre_rolled_15_Kernel
public import proofs.«01_k».proof.Proof.Gen.Pre_rolled_16_Kernel
public import proofs.«01_k».proof.Proof.Gen.Pre_rolled_17_Kernel
public import proofs.«01_k».proof.Proof.Gen.Pre_rolled_18_Kernel
public import proofs.«01_k».proof.Proof.Gen.Pre_rolled_19_Kernel
public import proofs.«01_k».proof.Proof.Gen.Pre_rolled_20_Kernel
public import proofs.«01_k».proof.Proof.Gen.Pre_rolled_21_Kernel
public import proofs.«01_k».proof.Proof.Gen.Pre_rolled_22_Kernel
public import proofs.«01_k».proof.Proof.Gen.Pre_rolled_23_Kernel
public import proofs.«01_k».proof.Proof.Gen.Pre_rolled_25_Kernel
public import proofs.«01_k».proof.Proof.Gen.Pre_rolled_26_Kernel
public import proofs.«01_k».proof.Proof.Gen.Pre_rolled_27_Kernel
public import proofs.«01_k».proof.Proof.Gen.Pre_rolled_28_Kernel
public import proofs.«01_k».proof.Proof.Gen.Pre_rolled_29_Kernel
public import proofs.«01_k».proof.Proof.Gen.Pre_rolled_30_Kernel
public import proofs.«01_k».proof.Proof.Gen.Pre_rolled_31_Kernel
public import Idealize.ShloMosaic.Adequacy
public import Idealize.ShloMosaic.Init

@[expose] public section

noncomputable section

namespace Cert.Proof

open Idealize.ShloMosaic Idealize.SL.Sem Cert.Shards

theorem claim : Cert.Claim :=
  ⟨
    Cert.ReferenceIdeal.Gen.facts, Cert.Kernel.Gen.facts, Cert.KernelIdeal.Gen.facts,
    Cert.Pre_rolled_1_ReferenceIdeal.Gen.facts, Cert.Pre_rolled_2_ReferenceIdeal.Gen.facts,
    Cert.Pre_rolled_3_ReferenceIdeal.Gen.facts, Cert.Pre_rolled_4_ReferenceIdeal.Gen.facts,
    Cert.Pre_rolled_5_ReferenceIdeal.Gen.facts, Cert.Pre_rolled_6_ReferenceIdeal.Gen.facts,
    Cert.Pre_rolled_7_ReferenceIdeal.Gen.facts, Cert.Pre_rolled_8_ReferenceIdeal.Gen.facts,
    Cert.Pre_rolled_9_ReferenceIdeal.Gen.facts, Cert.Pre_rolled_10_ReferenceIdeal.Gen.facts,
    Cert.Pre_rolled_11_ReferenceIdeal.Gen.facts, Cert.Pre_rolled_12_ReferenceIdeal.Gen.facts,
    Cert.Pre_rolled_13_ReferenceIdeal.Gen.facts, Cert.Pre_rolled_14_ReferenceIdeal.Gen.facts,
    Cert.Pre_rolled_15_ReferenceIdeal.Gen.facts, Cert.Pre_rolled_16_ReferenceIdeal.Gen.facts,
    Cert.Pre_rolled_17_ReferenceIdeal.Gen.facts, Cert.Pre_rolled_18_ReferenceIdeal.Gen.facts,
    Cert.Pre_rolled_19_ReferenceIdeal.Gen.facts, Cert.Pre_rolled_20_ReferenceIdeal.Gen.facts,
    Cert.Pre_rolled_21_ReferenceIdeal.Gen.facts, Cert.Pre_rolled_22_ReferenceIdeal.Gen.facts,
    Cert.Pre_rolled_23_ReferenceIdeal.Gen.facts, Cert.Pre_rolled_24_ReferenceIdeal.Gen.facts,
    Cert.Pre_rolled_25_ReferenceIdeal.Gen.facts, Cert.Pre_rolled_26_ReferenceIdeal.Gen.facts,
    Cert.Pre_rolled_27_ReferenceIdeal.Gen.facts, Cert.Pre_rolled_28_ReferenceIdeal.Gen.facts,
    Cert.Pre_rolled_29_ReferenceIdeal.Gen.facts, Cert.Pre_rolled_30_ReferenceIdeal.Gen.facts,
    Cert.Pre_rolled_31_ReferenceIdeal.Gen.facts, Cert.Pre_rolled_24_Kernel.Gen.facts,
    Cert.Pre_rolled_1_Kernel.Gen.facts, Cert.Pre_rolled_2_Kernel.Gen.facts, Cert.Pre_rolled_3_Kernel.Gen.facts,
    Cert.Pre_rolled_4_Kernel.Gen.facts, Cert.Pre_rolled_5_Kernel.Gen.facts, Cert.Pre_rolled_6_Kernel.Gen.facts,
    Cert.Pre_rolled_7_Kernel.Gen.facts, Cert.Pre_rolled_8_Kernel.Gen.facts, Cert.Pre_rolled_9_Kernel.Gen.facts,
    Cert.Pre_rolled_10_Kernel.Gen.facts, Cert.Pre_rolled_11_Kernel.Gen.facts, Cert.Pre_rolled_12_Kernel.Gen.facts,
    Cert.Pre_rolled_13_Kernel.Gen.facts, Cert.Pre_rolled_14_Kernel.Gen.facts, Cert.Pre_rolled_15_Kernel.Gen.facts,
    Cert.Pre_rolled_16_Kernel.Gen.facts, Cert.Pre_rolled_17_Kernel.Gen.facts, Cert.Pre_rolled_18_Kernel.Gen.facts,
    Cert.Pre_rolled_19_Kernel.Gen.facts, Cert.Pre_rolled_20_Kernel.Gen.facts, Cert.Pre_rolled_21_Kernel.Gen.facts,
    Cert.Pre_rolled_22_Kernel.Gen.facts, Cert.Pre_rolled_23_Kernel.Gen.facts, Cert.Pre_rolled_25_Kernel.Gen.facts,
    Cert.Pre_rolled_26_Kernel.Gen.facts, Cert.Pre_rolled_27_Kernel.Gen.facts, Cert.Pre_rolled_28_Kernel.Gen.facts,
    Cert.Pre_rolled_29_Kernel.Gen.facts, Cert.Pre_rolled_30_Kernel.Gen.facts, Cert.Pre_rolled_31_Kernel.Gen.facts,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g h => frame_kernel (roll 8) m g fun c => table_of 8 _ _ (h c),
    fun m g h => frame_kernel (roll 31) m g fun c => table_of 31 _ _ (h c),
    fun m g h => frame_kernel (roll 30) m g fun c => table_of 30 _ _ (h c),
    fun m g h => frame_kernel (roll 29) m g fun c => table_of 29 _ _ (h c),
    fun m g h => frame_kernel (roll 28) m g fun c => table_of 28 _ _ (h c),
    fun m g h => frame_kernel (roll 27) m g fun c => table_of 27 _ _ (h c),
    fun m g h => frame_kernel (roll 26) m g fun c => table_of 26 _ _ (h c),
    fun m g h => frame_kernel (roll 25) m g fun c => table_of 25 _ _ (h c),
    fun m g h => frame_kernel (roll 24) m g fun c => table_of 24 _ _ (h c),
    fun m g h => frame_kernel (roll 23) m g fun c => table_of 23 _ _ (h c),
    fun m g h => frame_kernel (roll 22) m g fun c => table_of 22 _ _ (h c),
    fun m g h => frame_kernel (roll 21) m g fun c => table_of 21 _ _ (h c),
    fun m g h => frame_kernel (roll 20) m g fun c => table_of 20 _ _ (h c),
    fun m g h => frame_kernel (roll 19) m g fun c => table_of 19 _ _ (h c),
    fun m g h => frame_kernel (roll 18) m g fun c => table_of 18 _ _ (h c),
    fun m g h => frame_kernel (roll 17) m g fun c => table_of 17 _ _ (h c),
    fun m g h => frame_kernel (roll 16) m g fun c => table_of 16 _ _ (h c),
    fun m g h => frame_kernel (roll 15) m g fun c => table_of 15 _ _ (h c),
    fun m g h => frame_kernel (roll 14) m g fun c => table_of 14 _ _ (h c),
    fun m g h => frame_kernel (roll 13) m g fun c => table_of 13 _ _ (h c),
    fun m g h => frame_kernel (roll 12) m g fun c => table_of 12 _ _ (h c),
    fun m g h => frame_kernel (roll 11) m g fun c => table_of 11 _ _ (h c),
    fun m g h => frame_kernel (roll 10) m g fun c => table_of 10 _ _ (h c),
    fun m g h => frame_kernel (roll 9) m g fun c => table_of 9 _ _ (h c),
    fun m g h => frame_kernel (roll 7) m g fun c => table_of 7 _ _ (h c),
    fun m g h => frame_kernel (roll 6) m g fun c => table_of 6 _ _ (h c),
    fun m g h => frame_kernel (roll 5) m g fun c => table_of 5 _ _ (h c),
    fun m g h => frame_kernel (roll 4) m g fun c => table_of 4 _ _ (h c),
    fun m g h => frame_kernel (roll 3) m g fun c => table_of 3 _ _ (h c),
    fun m g h => frame_kernel (roll 2) m g fun c => table_of 2 _ _ (h c),
    fun m g h => frame_kernel (roll 1) m g fun c => table_of 1 _ _ (h c),
    fun m g h => frame_ideal (roll 8) m g fun c => table_of 8 _ _ (h c),
    fun m g h => frame_ideal (roll 31) m g fun c => table_of 31 _ _ (h c),
    fun m g h => frame_ideal (roll 30) m g fun c => table_of 30 _ _ (h c),
    fun m g h => frame_ideal (roll 29) m g fun c => table_of 29 _ _ (h c),
    fun m g h => frame_ideal (roll 28) m g fun c => table_of 28 _ _ (h c),
    fun m g h => frame_ideal (roll 27) m g fun c => table_of 27 _ _ (h c),
    fun m g h => frame_ideal (roll 26) m g fun c => table_of 26 _ _ (h c),
    fun m g h => frame_ideal (roll 25) m g fun c => table_of 25 _ _ (h c),
    fun m g h => frame_ideal (roll 24) m g fun c => table_of 24 _ _ (h c),
    fun m g h => frame_ideal (roll 23) m g fun c => table_of 23 _ _ (h c),
    fun m g h => frame_ideal (roll 22) m g fun c => table_of 22 _ _ (h c),
    fun m g h => frame_ideal (roll 21) m g fun c => table_of 21 _ _ (h c),
    fun m g h => frame_ideal (roll 20) m g fun c => table_of 20 _ _ (h c),
    fun m g h => frame_ideal (roll 19) m g fun c => table_of 19 _ _ (h c),
    fun m g h => frame_ideal (roll 18) m g fun c => table_of 18 _ _ (h c),
    fun m g h => frame_ideal (roll 17) m g fun c => table_of 17 _ _ (h c),
    fun m g h => frame_ideal (roll 16) m g fun c => table_of 16 _ _ (h c),
    fun m g h => frame_ideal (roll 15) m g fun c => table_of 15 _ _ (h c),
    fun m g h => frame_ideal (roll 14) m g fun c => table_of 14 _ _ (h c),
    fun m g h => frame_ideal (roll 13) m g fun c => table_of 13 _ _ (h c),
    fun m g h => frame_ideal (roll 12) m g fun c => table_of 12 _ _ (h c),
    fun m g h => frame_ideal (roll 11) m g fun c => table_of 11 _ _ (h c),
    fun m g h => frame_ideal (roll 10) m g fun c => table_of 10 _ _ (h c),
    fun m g h => frame_ideal (roll 9) m g fun c => table_of 9 _ _ (h c),
    fun m g h => frame_ideal (roll 7) m g fun c => table_of 7 _ _ (h c),
    fun m g h => frame_ideal (roll 6) m g fun c => table_of 6 _ _ (h c),
    fun m g h => frame_ideal (roll 5) m g fun c => table_of 5 _ _ (h c),
    fun m g h => frame_ideal (roll 4) m g fun c => table_of 4 _ _ (h c),
    fun m g h => frame_ideal (roll 3) m g fun c => table_of 3 _ _ (h c),
    fun m g h => frame_ideal (roll 2) m g fun c => table_of 2 _ _ (h c),
    fun m g h => frame_ideal (roll 1) m g fun c => table_of 1 _ _ (h c),
    trivial,
    fun m g m' g' h => value (roll 31) m g m' g' fun c => table_of 31 _ _ (h c),
    fun m g m' g' h => value (roll 30) m g m' g' fun c => table_of 30 _ _ (h c),
    fun m g m' g' h => value (roll 29) m g m' g' fun c => table_of 29 _ _ (h c),
    fun m g m' g' h => value (roll 28) m g m' g' fun c => table_of 28 _ _ (h c),
    fun m g m' g' h => value (roll 27) m g m' g' fun c => table_of 27 _ _ (h c),
    fun m g m' g' h => value (roll 26) m g m' g' fun c => table_of 26 _ _ (h c),
    fun m g m' g' h => value (roll 25) m g m' g' fun c => table_of 25 _ _ (h c),
    fun m g m' g' h => value (roll 24) m g m' g' fun c => table_of 24 _ _ (h c),
    fun m g m' g' h => value (roll 23) m g m' g' fun c => table_of 23 _ _ (h c),
    fun m g m' g' h => value (roll 22) m g m' g' fun c => table_of 22 _ _ (h c),
    fun m g m' g' h => value (roll 21) m g m' g' fun c => table_of 21 _ _ (h c),
    fun m g m' g' h => value (roll 20) m g m' g' fun c => table_of 20 _ _ (h c),
    fun m g m' g' h => value (roll 19) m g m' g' fun c => table_of 19 _ _ (h c),
    fun m g m' g' h => value (roll 18) m g m' g' fun c => table_of 18 _ _ (h c),
    fun m g m' g' h => value (roll 17) m g m' g' fun c => table_of 17 _ _ (h c),
    fun m g m' g' h => value (roll 16) m g m' g' fun c => table_of 16 _ _ (h c),
    fun m g m' g' h => value (roll 15) m g m' g' fun c => table_of 15 _ _ (h c),
    fun m g m' g' h => value (roll 14) m g m' g' fun c => table_of 14 _ _ (h c),
    fun m g m' g' h => value (roll 13) m g m' g' fun c => table_of 13 _ _ (h c),
    fun m g m' g' h => value (roll 12) m g m' g' fun c => table_of 12 _ _ (h c),
    fun m g m' g' h => value (roll 11) m g m' g' fun c => table_of 11 _ _ (h c),
    fun m g m' g' h => value (roll 10) m g m' g' fun c => table_of 10 _ _ (h c),
    fun m g m' g' h => value (roll 9) m g m' g' fun c => table_of 9 _ _ (h c),
    fun m g m' g' h => value (roll 8) m g m' g' fun c => table_of 8 _ _ (h c),
    fun m g m' g' h => value (roll 7) m g m' g' fun c => table_of 7 _ _ (h c),
    fun m g m' g' h => value (roll 6) m g m' g' fun c => table_of 6 _ _ (h c),
    fun m g m' g' h => value (roll 5) m g m' g' fun c => table_of 5 _ _ (h c),
    fun m g m' g' h => value (roll 4) m g m' g' fun c => table_of 4 _ _ (h c),
    fun m g m' g' h => value (roll 3) m g m' g' fun c => table_of 3 _ _ (h c),
    fun m g m' g' h => value (roll 2) m g m' g' fun c => table_of 2 _ _ (h c),
    fun m g m' g' h => value (roll 1) m g m' g' fun c => table_of 1 _ _ (h c)⟩

end Cert.Proof

end
